-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v126)) (v2 : (c : Dev Cert.KernelIdeal.nD) → Buf (Elt Ideal) ((c.tc : Thread Cert.KernelIdeal.nD Cert.KernelIdeal.τ).loc Cert.KernelIdeal.main_v112_1)) (v3 : (c : Dev Cert.KernelIdeal.nD) → Buf (Elt Ideal) ((c.tc : Thread Cert.KernelIdeal.nD Cert.KernelIdeal.τ).loc Cert.KernelIdeal.main_v127)) (v4 : (c : Dev Cert.KernelIdeal.nD) → Buf (Elt Ideal) ((c.tc : Thread Cert.KernelIdeal.nD Cert.KernelIdeal.τ).loc Cert.KernelIdeal.main_v72)) (v5 : (c : Dev Cert.KernelIdeal.nD) → Buf (Elt Ideal) ((c.tc : Thread Cert.KernelIdeal.nD Cert.KernelIdeal.τ).loc Cert.KernelIdeal.main_v112_2)) (v6 : (c : Dev Cert.KernelIdeal.nD) → Buf (Elt Ideal) ((c.tc : Thread Cert.KernelIdeal.nD Cert.KernelIdeal.τ).loc Cert.KernelIdeal.main_v77)) (v7 : (c : Dev Cert.KernelIdeal.nD) → Buf (Elt Ideal) ((c.tc : Thread Cert.KernelIdeal.nD Cert.KernelIdeal.τ).loc Cert.KernelIdeal.main_v128)) (v8 : (c : Dev Cert.KernelIdeal.nD) → Buf (Elt Ideal) ((c.tc : Thread Cert.KernelIdeal.nD Cert.KernelIdeal.τ).loc Cert.KernelIdeal.main_v82)) (v9 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_v112_1) = v2 c
          ∧ r.2.mem ((c.tc : Thread Cert.KernelIdeal.nD Cert.KernelIdeal.τ).loc Cert.KernelIdeal.main_v127) = v3 c
          ∧ r.2.mem ((c.tc : Thread Cert.KernelIdeal.nD Cert.KernelIdeal.τ).loc Cert.KernelIdeal.main_v72) = v4 c
          ∧ r.2.mem ((c.tc : Thread Cert.KernelIdeal.nD Cert.KernelIdeal.τ).loc Cert.KernelIdeal.main_v112_2) = v5 c
          ∧ r.2.mem ((c.tc : Thread Cert.KernelIdeal.nD Cert.KernelIdeal.τ).loc Cert.KernelIdeal.main_v77) = v6 c
          ∧ r.2.mem ((c.tc : Thread Cert.KernelIdeal.nD Cert.KernelIdeal.τ).loc Cert.KernelIdeal.main_v128) = v7 c
          ∧ r.2.mem ((c.tc : Thread Cert.KernelIdeal.nD Cert.KernelIdeal.τ).loc Cert.KernelIdeal.main_v82) = v8 c
          ∧ r.2.mem ((c.tc : Thread Cert.KernelIdeal.nD Cert.KernelIdeal.τ).loc Cert.KernelIdeal.main_v124) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v119_2) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v119_4) = v5 c
          ∧ r.2.mem ((c.tc : Thread Cert.ReferenceIdeal.nD Cert.ReferenceIdeal.τ).loc Cert.ReferenceIdeal.main_v64) = v6 c
          ∧ r.2.mem ((c.tc : Thread Cert.ReferenceIdeal.nD Cert.ReferenceIdeal.τ).loc Cert.ReferenceIdeal.main_v139) = v7 c
          ∧ r.2.mem ((c.tc : Thread Cert.ReferenceIdeal.nD Cert.ReferenceIdeal.τ).loc Cert.ReferenceIdeal.main_v100) = v8 c
          ∧ r.2.mem ((c.tc : Thread Cert.ReferenceIdeal.nD Cert.ReferenceIdeal.τ).loc Cert.ReferenceIdeal.main_v135) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x5760 : Shape := ⟨3, ![4, 1024, 5760]⟩
abbrev S14848x5760 : Shape := ⟨2, ![14848, 5760]⟩
abbrev S4x1024x14848 : Shape := ⟨3, ![4, 1024, 14848]⟩
abbrev S3x16 : Shape := ⟨2, ![3, 16]⟩
abbrev S4096x5760 : Shape := ⟨2, ![4096, 5760]⟩
abbrev S4096x14848 : Shape := ⟨2, ![4096, 14848]⟩
abbrev S1x16 : Shape := ⟨2, ![1, 16]⟩
abbrev S16 : Shape := ⟨1, ![16]⟩
abbrev S_ : Shape := ⟨0, ![]⟩
abbrev S255 : Shape := ⟨1, ![255]⟩
abbrev S1 : Shape := ⟨1, ![1]⟩
abbrev S6 : Shape := ⟨1, ![6]⟩
abbrev S16x5760 : Shape := ⟨2, ![16, 5760]⟩
abbrev S256x5760 : Shape := ⟨2, ![256, 5760]⟩
abbrev S16x16x5760 : Shape := ⟨3, ![16, 16, 5760]⟩
abbrev S16x256 : Shape := ⟨2, ![16, 256]⟩
abbrev S4096x256 : Shape := ⟨2, ![4096, 256]⟩
abbrev S256x16x256 : Shape := ⟨3, ![256, 16, 256]⟩
abbrev S1024x14848 : Shape := ⟨2, ![1024, 14848]⟩
abbrev S14848x256 : Shape := ⟨2, ![14848, 256]⟩
abbrev S1024x256 : Shape := ⟨2, ![1024, 256]⟩
abbrev S3 : Shape := ⟨1, ![3]⟩
abbrev S3x1 : Shape := ⟨2, ![3, 1]⟩
abbrev S3x15 : Shape := ⟨2, ![3, 15]⟩

abbrev nBuf : Space → Nat
  | .hbm => 253
  | .vmem => 26
  | .smem => 3
  | _ => 0

abbrev hbmTy0_0 (i : Nat) : BufTy := match i % 128 with
  | 0 => ⟨S4x1024x5760, .bf16⟩
  | 1 => ⟨S14848x5760, .bf16⟩
  | 2 => ⟨S4x1024x14848, .bf16⟩
  | 3 => ⟨S3x16, .f32⟩
  | 4 => ⟨S4096x5760, .bf16⟩
  | 5 => ⟨S4096x14848, .bf16⟩
  | 6 => ⟨S1x16, .f32⟩
  | 7 => ⟨S16, .f32⟩
  | 8 => ⟨S_, .f32⟩
  | 9 => ⟨S_, .f32⟩
  | 10 => ⟨S_, .f32⟩
  | 11 => ⟨S_, .f32⟩
  | 12 => ⟨S255, .i32⟩
  | 13 => ⟨S_, .i32⟩
  | 14 => ⟨S255, .i32⟩
  | 15 => ⟨S255, .i32⟩
  | 16 => ⟨S_, .i32⟩
  | 17 => ⟨S255, .i32⟩
  | 18 => ⟨S255, .i32⟩
  | 19 => ⟨S255, .f32⟩
  | 20 => ⟨S_, .f32⟩
  | 21 => ⟨S255, .f32⟩
  | 22 => ⟨S255, .i1⟩
  | 23 => ⟨S255, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .f32⟩
  | 37 => ⟨S_, .i1⟩
  | 38 => ⟨S_, .i32⟩
  | 39 => ⟨S_, .i32⟩
  | 40 => ⟨S_, .i32⟩
  | 41 => ⟨S1x16, .f32⟩
  | 42 => ⟨S16, .f32⟩
  | 43 => ⟨S_, .f32⟩
  | 44 => ⟨S_, .f32⟩
  | 45 => ⟨S_, .f32⟩
  | 46 => ⟨S_, .f32⟩
  | 47 => ⟨S255, .i32⟩
  | 48 => ⟨S_, .i32⟩
  | 49 => ⟨S255, .i32⟩
  | 50 => ⟨S255, .i32⟩
  | 51 => ⟨S_, .i32⟩
  | 52 => ⟨S255, .i32⟩
  | 53 => ⟨S255, .i32⟩
  | 54 => ⟨S255, .f32⟩
  | 55 => ⟨S_, .f32⟩
  | 56 => ⟨S255, .f32⟩
  | 57 => ⟨S255, .i1⟩
  | 58 => ⟨S255, .i32⟩
  | 59 => ⟨S_, .i32⟩
  | 60 => ⟨S_, .i32⟩
  | 61 => ⟨S_, .i32⟩
  | 62 => ⟨S_, .i1⟩
  | 63 => ⟨S_, .i32⟩
  | 64 => ⟨S_, .i1⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .f32⟩
  | 72 => ⟨S_, .i1⟩
  | 73 => ⟨S_, .i32⟩
  | 74 => ⟨S_, .i32⟩
  | 75 => ⟨S_, .i32⟩
  | 76 => ⟨S1x16, .f32⟩
  | 77 => ⟨S16, .f32⟩
  | 78 => ⟨S_, .f32⟩
  | 79 => ⟨S_, .f32⟩
  | 80 => ⟨S_, .f32⟩
  | 81 => ⟨S_, .f32⟩
  | 82 => ⟨S255, .i32⟩
  | 83 => ⟨S_, .i32⟩
  | 84 => ⟨S255, .i32⟩
  | 85 => ⟨S255, .i32⟩
  | 86 => ⟨S_, .i32⟩
  | 87 => ⟨S255, .i32⟩
  | 88 => ⟨S255, .i32⟩
  | 89 => ⟨S255, .f32⟩
  | 90 => ⟨S_, .f32⟩
  | 91 => ⟨S255, .f32⟩
  | 92 => ⟨S255, .i1⟩
  | 93 => ⟨S255, .i32⟩
  | 94 => ⟨S_, .i32⟩
  | 95 => ⟨S_, .i32⟩
  | 96 => ⟨S_, .i32⟩
  | 97 => ⟨S_, .i1⟩
  | 98 => ⟨S_, .i32⟩
  | 99 => ⟨S_, .i1⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .f32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .f32⟩
  | _ => ⟨S4x1024x5760, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .f32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .f32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .f32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .f32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .f32⟩
  | 88 => ⟨S_, .f32⟩
  | 89 => ⟨S_, .f32⟩
  | 90 => ⟨S_, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S6, .f32⟩
  | 98 => ⟨S4096x5760, .fp8e4m3⟩
  | 99 => ⟨S16x5760, .bf16⟩
  | 100 => ⟨S4096x14848, .bf16⟩
  | 101 => ⟨S14848x5760, .f32⟩
  | 102 => ⟨S14848x5760, .fp8e4m3⟩
  | 103 => ⟨S4096x14848, .fp8e5m2⟩
  | 104 => ⟨S16x5760, .bf16⟩
  | 105 => ⟨S16x256, .bf16⟩
  | 106 => ⟨S4096x5760, .bf16⟩
  | 107 => ⟨S_, .bf16⟩
  | 108 => ⟨S_, .bf16⟩
  | 109 => ⟨S_, .bf16⟩
  | 110 => ⟨S_, .bf16⟩
  | 111 => ⟨S_, .bf16⟩
  | 112 => ⟨S_, .bf16⟩
  | 113 => ⟨S1, .bf16⟩
  | 114 => ⟨S1, .bf16⟩
  | 115 => ⟨S1, .bf16⟩
  | 116 => ⟨S3, .bf16⟩
  | 117 => ⟨S3, .f32⟩
  | 118 => ⟨S3x1, .f32⟩
  | 119 => ⟨S3x15, .f32⟩
  | 120 => ⟨S3x16, .f32⟩
  | 121 => ⟨S4x1024x14848, .bf16⟩
  | 122 => ⟨S4x1024x5760, .bf16⟩
  | 123 => ⟨S4x1024x5760, .fp8e4m3⟩
  | 124 => ⟨S4x1024x14848, .fp8e5m2⟩
  | _ => ⟨S4x1024x5760, .bf16⟩

abbrev hbmTy (i : Nat) : BufTy := match i / 128 with
  | 0 => hbmTy0_0 i
  | 1 => hbmTy0_1 i
  | _ => ⟨S4x1024x5760, .bf16⟩

abbrev bufTy : (tb : Table) → Fin (tcTables nBuf tb) → BufTy
  | .hbm, ⟨i, _⟩ => hbmTy i
  | .local _ .vmem, ⟨0, _⟩ => ⟨S256x5760, .bf16⟩
  | .local _ .vmem, ⟨1, _⟩ => ⟨S256x5760, .bf16⟩
  | .local _ .vmem, ⟨2, _⟩ => ⟨S256x5760, .fp8e4m3⟩
  | .local _ .vmem, ⟨3, _⟩ => ⟨S256x5760, .fp8e4m3⟩
  | .local _ .vmem, ⟨4, _⟩ => ⟨S16x5760, .bf16⟩
  | .local _ .vmem, ⟨5, _⟩ => ⟨S4096x5760, .fp8e4m3⟩
  | .local _ .vmem, ⟨6, _⟩ => ⟨S256x5760, .bf16⟩
  | .local _ .vmem, ⟨7, _⟩ => ⟨S256x5760, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S256x5760, .f32⟩
  | .local _ .vmem, ⟨13, _⟩ => ⟨S256x5760, .f32⟩
  | .local _ .vmem, ⟨14, _⟩ => ⟨S256x5760, .fp8e4m3⟩
  | .local _ .vmem, ⟨15, _⟩ => ⟨S256x5760, .fp8e4m3⟩
  | .local _ .vmem, ⟨16, _⟩ => ⟨S4096x256, .fp8e5m2⟩
  | .local _ .vmem, ⟨17, _⟩ => ⟨S4096x256, .fp8e5m2⟩
  | .local _ .vmem, ⟨18, _⟩ => ⟨S16x5760, .bf16⟩
  | .local _ .vmem, ⟨19, _⟩ => ⟨S16x256, .bf16⟩
  | .local _ .vmem, ⟨20, _⟩ => ⟨S1024x14848, .fp8e5m2⟩
  | .local _ .vmem, ⟨21, _⟩ => ⟨S1024x14848, .fp8e5m2⟩
  | .local _ .vmem, ⟨22, _⟩ => ⟨S14848x256, .fp8e4m3⟩
  | .local _ .vmem, ⟨23, _⟩ => ⟨S14848x256, .fp8e4m3⟩
  | .local _ .vmem, ⟨24, _⟩ => ⟨S1024x256, .bf16⟩
  | .local _ .vmem, ⟨25, _⟩ => ⟨S1024x256, .bf16⟩
  | .local _ .smem, ⟨0, _⟩ => ⟨S6, .f32⟩
  | .local _ .smem, ⟨1, _⟩ => ⟨S6, .f32⟩
  | .local _ .smem, ⟨2, _⟩ => ⟨S6, .f32⟩
  | _, _ => ⟨S4x1024x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_c_6 : Ref sig .tc := ⟨.hbm, 33, rfl⟩
abbrev main_call0_v0 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_c_8 : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_c_11 : Ref sig .tc := ⟨.hbm, 48, rfl⟩
abbrev main_v29 : Ref sig .tc := ⟨.hbm, 49, rfl⟩
abbrev main_v30 : Ref sig .tc := ⟨.hbm, 50, rfl⟩
abbrev main_c_12 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_13 : Ref sig .tc := ⟨.hbm, 59, rfl⟩
abbrev main_v38 : Ref sig .tc := ⟨.hbm, 60, rfl⟩
abbrev main_c_14 : Ref sig .tc := ⟨.hbm, 61, rfl⟩
abbrev main_v39 : Ref sig .tc := ⟨.hbm, 62, rfl⟩
abbrev main_c_15 : Ref sig .tc := ⟨.hbm, 63, rfl⟩
abbrev main_v40 : Ref sig .tc := ⟨.hbm, 64, rfl⟩
abbrev main_v41 : Ref sig .tc := ⟨.hbm, 65, rfl⟩
abbrev main_c_16 : Ref sig .tc := ⟨.hbm, 66, rfl⟩
abbrev main_v42 : Ref sig .tc := ⟨.hbm, 67, rfl⟩
abbrev main_c_17 : Ref sig .tc := ⟨.hbm, 68, rfl⟩
abbrev main_call2_v0 : Ref sig .tc := ⟨.hbm, 69, rfl⟩
abbrev main_v43 : Ref sig .tc := ⟨.hbm, 70, rfl⟩
abbrev main_cst_18 : Ref sig .tc := ⟨.hbm, 71, rfl⟩
abbrev main_v44 : Ref sig .tc := ⟨.hbm, 72, rfl⟩
abbrev main_c_19 : Ref sig .tc := ⟨.hbm, 73, rfl⟩
abbrev main_call3_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_20 : Ref sig .tc := ⟨.hbm, 78, rfl⟩
abbrev main_v48 : Ref sig .tc := ⟨.hbm, 79, rfl⟩
abbrev main_cst_21 : Ref sig .tc := ⟨.hbm, 80, rfl⟩
abbrev main_v49 : Ref sig .tc := ⟨.hbm, 81, rfl⟩
abbrev main_v50 : Ref sig .tc := ⟨.hbm, 82, rfl⟩
abbrev main_c_22 : Ref sig .tc := ⟨.hbm, 83, rfl⟩
abbrev main_v51 : Ref sig .tc := ⟨.hbm, 84, rfl⟩
abbrev main_v52 : Ref sig .tc := ⟨.hbm, 85, rfl⟩
abbrev main_c_23 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_24 : Ref sig .tc := ⟨.hbm, 94, rfl⟩
abbrev main_v60 : Ref sig .tc := ⟨.hbm, 95, rfl⟩
abbrev main_c_25 : Ref sig .tc := ⟨.hbm, 96, rfl⟩
abbrev main_v61 : Ref sig .tc := ⟨.hbm, 97, rfl⟩
abbrev main_c_26 : Ref sig .tc := ⟨.hbm, 98, rfl⟩
abbrev main_v62 : Ref sig .tc := ⟨.hbm, 99, rfl⟩
abbrev main_v63 : Ref sig .tc := ⟨.hbm, 100, rfl⟩
abbrev main_c_27 : Ref sig .tc := ⟨.hbm, 101, rfl⟩
abbrev main_v64 : Ref sig .tc := ⟨.hbm, 102, rfl⟩
abbrev main_c_28 : Ref sig .tc := ⟨.hbm, 103, rfl⟩
abbrev main_call4_v0 : Ref sig .tc := ⟨.hbm, 104, rfl⟩
abbrev main_v65 : Ref sig .tc := ⟨.hbm, 105, rfl⟩
abbrev main_cst_29 : Ref sig .tc := ⟨.hbm, 106, rfl⟩
abbrev main_v66 : Ref sig .tc := ⟨.hbm, 107, rfl⟩
abbrev main_c_30 : Ref sig .tc := ⟨.hbm, 108, rfl⟩
abbrev main_call5_v0 : Ref sig .tc := ⟨.hbm, 109, rfl⟩
abbrev main_v67 : Ref sig .tc := ⟨.hbm, 110, rfl⟩
abbrev main_c_31 : Ref sig .tc := ⟨.hbm, 111, rfl⟩
abbrev main_c_32 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_v68 : Ref sig .tc := ⟨.hbm, 116, rfl⟩
abbrev main_c_33 : Ref sig .tc := ⟨.hbm, 117, rfl⟩
abbrev main_v69 : Ref sig .tc := ⟨.hbm, 118, rfl⟩
abbrev main_c_34 : Ref sig .tc := ⟨.hbm, 119, rfl⟩
abbrev main_c_35 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_v70 : Ref sig .tc := ⟨.hbm, 124, rfl⟩
abbrev main_c_36 : Ref sig .tc := ⟨.hbm, 125, rfl⟩
abbrev main_v71 : Ref sig .tc := ⟨.hbm, 126, rfl⟩
abbrev main_v72 : Ref sig .tc := ⟨.hbm, 127, rfl⟩
abbrev main_c_37 : Ref sig .tc := ⟨.hbm, 128, rfl⟩
abbrev main_c_38 : Ref sig .tc := ⟨.hbm, 129, rfl⟩
abbrev main_call8_v0 : Ref sig .tc := ⟨.hbm, 130, rfl⟩
abbrev main_call8_v1 : Ref sig .tc := ⟨.hbm, 131, rfl⟩
abbrev main_call8_v2 : Ref sig .tc := ⟨.hbm, 132, rfl⟩
abbrev main_v73 : Ref sig .tc := ⟨.hbm, 133, rfl⟩
abbrev main_c_39 : Ref sig .tc := ⟨.hbm, 134, rfl⟩
abbrev main_v74 : Ref sig .tc := ⟨.hbm, 135, rfl⟩
abbrev main_c_40 : Ref sig .tc := ⟨.hbm, 136, rfl⟩
abbrev main_c_41 : Ref sig .tc := ⟨.hbm, 137, rfl⟩
abbrev main_call9_v0 : Ref sig .tc := ⟨.hbm, 138, rfl⟩
abbrev main_call9_v1 : Ref sig .tc := ⟨.hbm, 139, rfl⟩
abbrev main_call9_v2 : Ref sig .tc := ⟨.hbm, 140, rfl⟩
abbrev main_v75 : Ref sig .tc := ⟨.hbm, 141, rfl⟩
abbrev main_c_42 : Ref sig .tc := ⟨.hbm, 142, rfl⟩
abbrev main_v76 : Ref sig .tc := ⟨.hbm, 143, rfl⟩
abbrev main_v77 : Ref sig .tc := ⟨.hbm, 144, rfl⟩
abbrev main_c_43 : Ref sig .tc := ⟨.hbm, 145, rfl⟩
abbrev main_c_44 : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_v78 : Ref sig .tc := ⟨.hbm, 150, rfl⟩
abbrev main_c_45 : Ref sig .tc := ⟨.hbm, 151, rfl⟩
abbrev main_v79 : Ref sig .tc := ⟨.hbm, 152, rfl⟩
abbrev main_c_46 : Ref sig .tc := ⟨.hbm, 153, rfl⟩
abbrev main_c_47 : Ref sig .tc := ⟨.hbm, 154, rfl⟩
abbrev main_call11_v0 : Ref sig .tc := ⟨.hbm, 155, rfl⟩
abbrev main_call11_v1 : Ref sig .tc := ⟨.hbm, 156, rfl⟩
abbrev main_call11_v2 : Ref sig .tc := ⟨.hbm, 157, rfl⟩
abbrev main_v80 : Ref sig .tc := ⟨.hbm, 158, rfl⟩
abbrev main_c_48 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_c_49 : Ref sig .tc := ⟨.hbm, 163, rfl⟩
abbrev main_c_50 : Ref sig .tc := ⟨.hbm, 164, rfl⟩
abbrev main_call12_v0 : Ref sig .tc := ⟨.hbm, 165, rfl⟩
abbrev main_call12_v1 : Ref sig .tc := ⟨.hbm, 166, rfl⟩
abbrev main_call12_v2 : Ref sig .tc := ⟨.hbm, 167, rfl⟩
abbrev main_v84 : Ref sig .tc := ⟨.hbm, 168, rfl⟩
abbrev main_c_51 : Ref sig .tc := ⟨.hbm, 169, rfl⟩
abbrev main_v85 : Ref sig .tc := ⟨.hbm, 170, rfl⟩
abbrev main_c_52 : Ref sig .tc := ⟨.hbm, 171, rfl⟩
abbrev main_c_53 : Ref sig .tc := ⟨.hbm, 172, rfl⟩
abbrev main_call13_v0 : Ref sig .tc := ⟨.hbm, 173, rfl⟩
abbrev main_call13_v1 : Ref sig .tc := ⟨.hbm, 174, rfl⟩
abbrev main_call13_v2 : Ref sig .tc := ⟨.hbm, 175, rfl⟩
abbrev main_v86 : Ref sig .tc := ⟨.hbm, 176, rfl⟩
abbrev main_c_54 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_c_55 : Ref sig .tc := ⟨.hbm, 181, rfl⟩
abbrev main_c_56 : Ref sig .tc := ⟨.hbm, 182, rfl⟩
abbrev main_call14_v0 : Ref sig .tc := ⟨.hbm, 183, rfl⟩
abbrev main_call14_v1 : Ref sig .tc := ⟨.hbm, 184, rfl⟩
abbrev main_call14_v2 : Ref sig .tc := ⟨.hbm, 185, rfl⟩
abbrev main_v90 : Ref sig .tc := ⟨.hbm, 186, rfl⟩
abbrev main_c_57 : Ref sig .tc := ⟨.hbm, 187, rfl⟩
abbrev main_v91 : Ref sig .tc := ⟨.hbm, 188, rfl⟩
abbrev main_c_58 : Ref sig .tc := ⟨.hbm, 189, rfl⟩
abbrev main_c_59 : Ref sig .tc := ⟨.hbm, 190, rfl⟩
abbrev main_call15_v0 : Ref sig .tc := ⟨.hbm, 191, rfl⟩
abbrev main_call15_v1 : Ref sig .tc := ⟨.hbm, 192, rfl⟩
abbrev main_call15_v2 : Ref sig .tc := ⟨.hbm, 193, rfl⟩
abbrev main_v92 : Ref sig .tc := ⟨.hbm, 194, rfl⟩
abbrev main_c_60 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_c_61 : Ref sig .tc := ⟨.hbm, 199, rfl⟩
abbrev main_c_62 : Ref sig .tc := ⟨.hbm, 200, rfl⟩
abbrev main_call16_v0 : Ref sig .tc := ⟨.hbm, 201, rfl⟩
abbrev main_call16_v1 : Ref sig .tc := ⟨.hbm, 202, rfl⟩
abbrev main_call16_v2 : Ref sig .tc := ⟨.hbm, 203, rfl⟩
abbrev main_v96 : Ref sig .tc := ⟨.hbm, 204, rfl⟩
abbrev main_c_63 : Ref sig .tc := ⟨.hbm, 205, rfl⟩
abbrev main_v97 : Ref sig .tc := ⟨.hbm, 206, rfl⟩
abbrev main_c_64 : Ref sig .tc := ⟨.hbm, 207, rfl⟩
abbrev main_c_65 : Ref sig .tc := ⟨.hbm, 208, rfl⟩
abbrev main_call17_v0 : Ref sig .tc := ⟨.hbm, 209, rfl⟩
abbrev main_call17_v1 : Ref sig .tc := ⟨.hbm, 210, rfl⟩
abbrev main_call17_v2 : Ref sig .tc := ⟨.hbm, 211, rfl⟩
abbrev main_v98 : Ref sig .tc := ⟨.hbm, 212, rfl⟩
abbrev main_c_66 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111_0 : Ref sig .tc := ⟨.hbm, 226, rfl⟩
abbrev main_v111_1 : Ref sig .tc := ⟨.hbm, 227, rfl⟩
abbrev main_v112_0 : Ref sig .tc := ⟨.hbm, 228, rfl⟩
abbrev main_v112_1 : Ref sig .tc := ⟨.hbm, 229, rfl⟩
abbrev main_v112_2 : Ref sig .tc := ⟨.hbm, 230, rfl⟩
abbrev main_v112_3 : Ref sig .tc := ⟨.hbm, 231, rfl⟩
abbrev main_v112_4 : Ref sig .tc := ⟨.hbm, 232, rfl⟩
abbrev main_v112_5 : Ref sig .tc := ⟨.hbm, 233, rfl⟩
abbrev main_v113 : Ref sig .tc := ⟨.hbm, 234, rfl⟩
abbrev main_cst_67 : Ref sig .tc := ⟨.hbm, 235, rfl⟩
abbrev main_v114 : Ref sig .tc := ⟨.hbm, 236, rfl⟩
abbrev main_cst_68 : Ref sig .tc := ⟨.hbm, 237, rfl⟩
abbrev main_v115 : Ref sig .tc := ⟨.hbm, 238, rfl⟩
abbrev main_cst_69 : Ref sig .tc := ⟨.hbm, 239, rfl⟩
abbrev main_v116 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5760 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5760 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x5760 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![58], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S6 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x5760 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x5760 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x5760 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x5760 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096x256 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S16x5760 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨2, ![4, 23], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S6 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x14848 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S14848x256 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S4x1024x5760 : Shape := ⟨3, ![4, 1024, 5760]⟩
abbrev S14848x5760 : Shape := ⟨2, ![14848, 5760]⟩
abbrev S4x1024x14848 : Shape := ⟨3, ![4, 1024, 14848]⟩
abbrev S3x16 : Shape := ⟨2, ![3, 16]⟩
abbrev S1x16 : Shape := ⟨2, ![1, 16]⟩
abbrev S16 : Shape := ⟨1, ![16]⟩
abbrev S_ : Shape := ⟨0, ![]⟩
abbrev S254 : Shape := ⟨1, ![254]⟩
abbrev S1x1 : Shape := ⟨2, ![1, 1]⟩
abbrev S4096x5760 : Shape := ⟨2, ![4096, 5760]⟩
abbrev S4096x14848 : Shape := ⟨2, ![4096, 14848]⟩
abbrev S1 : Shape := ⟨1, ![1]⟩
abbrev S3 : Shape := ⟨1, ![3]⟩
abbrev S3x1 : Shape := ⟨2, ![3, 1]⟩
abbrev S3x15 : Shape := ⟨2, ![3, 15]⟩

abbrev nBuf : Space → Nat
  | .hbm => 242
  | .vmem => 15
  | .smem => 0
  | _ => 0

abbrev hbmTy0_0 (i : Nat) : BufTy := match i % 128 with
  | 0 => ⟨S4x1024x5760, .bf16⟩
  | 1 => ⟨S14848x5760, .bf16⟩
  | 2 => ⟨S4x1024x14848, .bf16⟩
  | 3 => ⟨S3x16, .f32⟩
  | 4 => ⟨S1x16, .f32⟩
  | 5 => ⟨S16, .f32⟩
  | 6 => ⟨S_, .f32⟩
  | 7 => ⟨S_, .f32⟩
  | 8 => ⟨S_, .f32⟩
  | 9 => ⟨S_, .f32⟩
  | 10 => ⟨S_, .f32⟩
  | 11 => ⟨S254, .i32⟩
  | 12 => ⟨S_, .i32⟩
  | 13 => ⟨S254, .i32⟩
  | 14 => ⟨S254, .i32⟩
  | 15 => ⟨S_, .f32⟩
  | 16 => ⟨S254, .f32⟩
  | 17 => ⟨S254, .f32⟩
  | 18 => ⟨S254, .f32⟩
  | 19 => ⟨S254, .f32⟩
  | 20 => ⟨S254, .i1⟩
  | 21 => ⟨S_, .i32⟩
  | 22 => ⟨S254, .i32⟩
  | 23 => ⟨S254, .i32⟩
  | 24 => ⟨S_, .i32⟩
  | 25 => ⟨S_, .i32⟩
  | 26 => ⟨S254, .i32⟩
  | 27 => ⟨S254, .i32⟩
  | 28 => ⟨S_, .i32⟩
  | 29 => ⟨S_, .i32⟩
  | 30 => ⟨S_, .i32⟩
  | 31 => ⟨S_, .i1⟩
  | 32 => ⟨S_, .f32⟩
  | 33 => ⟨S_, .i1⟩
  | 34 => ⟨S_, .i1⟩
  | 35 => ⟨S_, .i32⟩
  | 36 => ⟨S_, .i32⟩
  | 37 => ⟨S_, .i32⟩
  | 38 => ⟨S_, .f32⟩
  | 39 => ⟨S_, .i1⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i1⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .i32⟩
  | 57 => ⟨S_, .i32⟩
  | 58 => ⟨S_, .i1⟩
  | 59 => ⟨S_, .i32⟩
  | 60 => ⟨S_, .i1⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S1x16, .f32⟩
  | 71 => ⟨S16, .f32⟩
  | 72 => ⟨S_, .f32⟩
  | 73 => ⟨S_, .f32⟩
  | 74 => ⟨S_, .f32⟩
  | 75 => ⟨S_, .f32⟩
  | 76 => ⟨S_, .f32⟩
  | 77 => ⟨S254, .i32⟩
  | 78 => ⟨S_, .i32⟩
  | 79 => ⟨S254, .i32⟩
  | 80 => ⟨S254, .i32⟩
  | 81 => ⟨S_, .f32⟩
  | 82 => ⟨S254, .f32⟩
  | 83 => ⟨S254, .f32⟩
  | 84 => ⟨S254, .f32⟩
  | 85 => ⟨S254, .f32⟩
  | 86 => ⟨S254, .i1⟩
  | 87 => ⟨S_, .i32⟩
  | 88 => ⟨S254, .i32⟩
  | 89 => ⟨S254, .i32⟩
  | 90 => ⟨S_, .i32⟩
  | 91 => ⟨S_, .i32⟩
  | 92 => ⟨S254, .i32⟩
  | 93 => ⟨S254, .i32⟩
  | 94 => ⟨S_, .i32⟩
  | 95 => ⟨S_, .i32⟩
  | 96 => ⟨S_, .i32⟩
  | 97 => ⟨S_, .i1⟩
  | 98 => ⟨S_, .f32⟩
  | 99 => ⟨S_, .i1⟩
  | 100 => ⟨S_, .i1⟩
  | 101 => ⟨S_, .i32⟩
  | 102 => ⟨S_, .i32⟩
  | 103 => ⟨S_, .i32⟩
  | 104 => ⟨S_, .f32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i1⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i32⟩
  | 123 => ⟨S_, .i32⟩
  | 124 => ⟨S_, .i1⟩
  | 125 => ⟨S_, .i32⟩
  | 126 => ⟨S_, .i1⟩
  | 127 => ⟨S_, .f32⟩
  | _ => ⟨S4x1024x5760, .bf16⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1x16, .f32⟩
  | 9 => ⟨S16, .f32⟩
  | 10 => ⟨S_, .f32⟩
  | 11 => ⟨S_, .f32⟩
  | 12 => ⟨S_, .f32⟩
  | 13 => ⟨S_, .f32⟩
  | 14 => ⟨S_, .f32⟩
  | 15 => ⟨S254, .i32⟩
  | 16 => ⟨S_, .i32⟩
  | 17 => ⟨S254, .i32⟩
  | 18 => ⟨S254, .i32⟩
  | 19 => ⟨S_, .f32⟩
  | 20 => ⟨S254, .f32⟩
  | 21 => ⟨S254, .f32⟩
  | 22 => ⟨S254, .f32⟩
  | 23 => ⟨S254, .f32⟩
  | 24 => ⟨S254, .i1⟩
  | 25 => ⟨S_, .i32⟩
  | 26 => ⟨S254, .i32⟩
  | 27 => ⟨S254, .i32⟩
  | 28 => ⟨S_, .i32⟩
  | 29 => ⟨S_, .i32⟩
  | 30 => ⟨S254, .i32⟩
  | 31 => ⟨S254, .i32⟩
  | 32 => ⟨S_, .i32⟩
  | 33 => ⟨S_, .i32⟩
  | 34 => ⟨S_, .i32⟩
  | 35 => ⟨S_, .i1⟩
  | 36 => ⟨S_, .f32⟩
  | 37 => ⟨S_, .i1⟩
  | 38 => ⟨S_, .i1⟩
  | 39 => ⟨S_, .i32⟩
  | 40 => ⟨S_, .i32⟩
  | 41 => ⟨S_, .i32⟩
  | 42 => ⟨S_, .f32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i1⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .i32⟩
  | 61 => ⟨S_, .i32⟩
  | 62 => ⟨S_, .i1⟩
  | 63 => ⟨S_, .i32⟩
  | 64 => ⟨S_, .i1⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S1x1, .f32⟩
  | 75 => ⟨S1x1, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S1x1, .f32⟩
  | 83 => ⟨S4096x5760, .bf16⟩
  | 84 => ⟨S4096x14848, .bf16⟩
  | 85 => ⟨S4096x14848, .bf16⟩
  | 86 => ⟨S4096x5760, .bf16⟩
  | 87 => ⟨S14848x5760, .f32⟩
  | 88 => ⟨S4096x5760, .fp8e4m3⟩
  | 89 => ⟨S14848x5760, .fp8e4m3⟩
  | 90 => ⟨S4096x14848, .fp8e5m2⟩
  | 91 => ⟨S4x1024x5760, .bf16⟩
  | 92 => ⟨S_, .bf16⟩
  | 93 => ⟨S_, .bf16⟩
  | 94 => ⟨S_, .f32⟩
  | 95 => ⟨S14848x5760, .bf16⟩
  | 96 => ⟨S_, .bf16⟩
  | 97 => ⟨S_, .bf16⟩
  | 98 => ⟨S_, .f32⟩
  | 99 => ⟨S4x1024x14848, .bf16⟩
  | 100 => ⟨S_, .bf16⟩
  | 101 => ⟨S_, .bf16⟩
  | 102 => ⟨S_, .f32⟩
  | 103 => ⟨S1, .f32⟩
  | 104 => ⟨S1, .f32⟩
  | 105 => ⟨S1, .f32⟩
  | 106 => ⟨S3, .f32⟩
  | 107 => ⟨S3x1, .f32⟩
  | 108 => ⟨S3x15, .f32⟩
  | 109 => ⟨S3x16, .f32⟩
  | 110 => ⟨S4x1024x14848, .bf16⟩
  | 111 => ⟨S4x1024x5760, .bf16⟩
  | 112 => ⟨S4x1024x5760, .fp8e4m3⟩
  | 113 => ⟨S4x1024x14848, .fp8e5m2⟩
  | _ => ⟨S4x1024x5760, .bf16⟩

abbrev hbmTy (i : Nat) : BufTy := match i / 128 with
  | 0 => hbmTy0_0 i
  | 1 => hbmTy0_1 i
  | _ => ⟨S4x1024x5760, .bf16⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S1x1, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S4096x5760, .bf16⟩
  | .local _ .vmem, ⟨7, _⟩ => ⟨S14848x5760, .bf16⟩
  | .local _ .vmem, ⟨8, _⟩ => ⟨S4096x14848, .bf16⟩
  | .local _ .vmem, ⟨9, _⟩ => ⟨S4096x14848, .bf16⟩
  | .local _ .vmem, ⟨10, _⟩ => ⟨S4096x5760, .bf16⟩
  | .local _ .vmem, ⟨11, _⟩ => ⟨S14848x5760, .f32⟩
  | .local _ .vmem, ⟨12, _⟩ => ⟨S4096x5760, .fp8e4m3⟩
  | .local _ .vmem, ⟨13, _⟩ => ⟨S14848x5760, .fp8e4m3⟩
  | .local _ .vmem, ⟨14, _⟩ => ⟨S4096x14848, .fp8e5m2⟩
  | _, _ => ⟨S4x1024x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_call1_v0 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_c_9 : Ref sig .tc := ⟨.hbm, 40, rfl⟩
abbrev main_call2_v0 : Ref sig .tc := ⟨.hbm, 41, rfl⟩
abbrev main_v22 : Ref sig .tc := ⟨.hbm, 42, rfl⟩
abbrev main_c_10 : Ref sig .tc := ⟨.hbm, 43, rfl⟩
abbrev main_v23 : Ref sig .tc := ⟨.hbm, 44, rfl⟩
abbrev main_c_11 : Ref sig .tc := ⟨.hbm, 45, rfl⟩
abbrev main_v24 : Ref sig .tc := ⟨.hbm, 46, rfl⟩
abbrev main_v25 : Ref sig .tc := ⟨.hbm, 47, rfl⟩
abbrev main_cst_12 : Ref sig .tc := ⟨.hbm, 48, rfl⟩
abbrev main_v26 : Ref sig .tc := ⟨.hbm, 49, rfl⟩
abbrev main_cst_13 : Ref sig .tc := ⟨.hbm, 50, rfl⟩
abbrev main_call3_v0 : Ref sig .tc := ⟨.hbm, 51, rfl⟩
abbrev main_v27 : Ref sig .tc := ⟨.hbm, 52, rfl⟩
abbrev main_cst_14 : Ref sig .tc := ⟨.hbm, 53, rfl⟩
abbrev main_call4_v0 : Ref sig .tc := ⟨.hbm, 54, rfl⟩
abbrev main_v28 : Ref sig .tc := ⟨.hbm, 55, rfl⟩
abbrev main_v29 : Ref sig .tc := ⟨.hbm, 56, rfl⟩
abbrev main_c_15 : Ref sig .tc := ⟨.hbm, 57, rfl⟩
abbrev main_v30 : Ref sig .tc := ⟨.hbm, 58, rfl⟩
abbrev main_c_16 : Ref sig .tc := ⟨.hbm, 59, rfl⟩
abbrev main_v31 : Ref sig .tc := ⟨.hbm, 60, rfl⟩
abbrev main_v32 : Ref sig .tc := ⟨.hbm, 61, rfl⟩
abbrev main_cst_17 : Ref sig .tc := ⟨.hbm, 62, rfl⟩
abbrev main_v33 : Ref sig .tc := ⟨.hbm, 63, rfl⟩
abbrev main_cst_18 : Ref sig .tc := ⟨.hbm, 64, rfl⟩
abbrev main_call5_v0 : Ref sig .tc := ⟨.hbm, 65, rfl⟩
abbrev main_v34 : Ref sig .tc := ⟨.hbm, 66, rfl⟩
abbrev main_cst_19 : Ref sig .tc := ⟨.hbm, 67, rfl⟩
abbrev main_call6_v0 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_20 : Ref sig .tc := ⟨.hbm, 72, rfl⟩
abbrev main_v38 : Ref sig .tc := ⟨.hbm, 73, rfl⟩
abbrev main_cst_21 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_22 : Ref sig .tc := ⟨.hbm, 78, rfl⟩
abbrev main_v42 : Ref sig .tc := ⟨.hbm, 79, rfl⟩
abbrev main_v43 : Ref sig .tc := ⟨.hbm, 80, rfl⟩
abbrev main_cst_23 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_24 : Ref sig .tc := ⟨.hbm, 87, rfl⟩
abbrev main_v49 : Ref sig .tc := ⟨.hbm, 88, rfl⟩
abbrev main_v50 : Ref sig .tc := ⟨.hbm, 89, rfl⟩
abbrev main_c_25 : Ref sig .tc := ⟨.hbm, 90, rfl⟩
abbrev main_call7_v0 : Ref sig .tc := ⟨.hbm, 91, rfl⟩
abbrev main_call7_v1 : Ref sig .tc := ⟨.hbm, 92, rfl⟩
abbrev main_v51 : Ref sig .tc := ⟨.hbm, 93, rfl⟩
abbrev main_c_26 : Ref sig .tc := ⟨.hbm, 94, rfl⟩
abbrev main_v52 : Ref sig .tc := ⟨.hbm, 95, rfl⟩
abbrev main_c_27 : Ref sig .tc := ⟨.hbm, 96, rfl⟩
abbrev main_v53 : Ref sig .tc := ⟨.hbm, 97, rfl⟩
abbrev main_cst_28 : Ref sig .tc := ⟨.hbm, 98, rfl⟩
abbrev main_v54 : Ref sig .tc := ⟨.hbm, 99, rfl⟩
abbrev main_v55 : Ref sig .tc := ⟨.hbm, 100, rfl⟩
abbrev main_c_29 : Ref sig .tc := ⟨.hbm, 101, rfl⟩
abbrev main_call8_v0 : Ref sig .tc := ⟨.hbm, 102, rfl⟩
abbrev main_v56 : Ref sig .tc := ⟨.hbm, 103, rfl⟩
abbrev main_cst_30 : Ref sig .tc := ⟨.hbm, 104, rfl⟩
abbrev main_v57 : Ref sig .tc := ⟨.hbm, 105, rfl⟩
abbrev main_c_31 : Ref sig .tc := ⟨.hbm, 106, rfl⟩
abbrev main_call9_v0 : Ref sig .tc := ⟨.hbm, 107, rfl⟩
abbrev main_v58 : Ref sig .tc := ⟨.hbm, 108, rfl⟩
abbrev main_c_32 : Ref sig .tc := ⟨.hbm, 109, rfl⟩
abbrev main_v59 : Ref sig .tc := ⟨.hbm, 110, rfl⟩
abbrev main_c_33 : Ref sig .tc := ⟨.hbm, 111, rfl⟩
abbrev main_v60 : Ref sig .tc := ⟨.hbm, 112, rfl⟩
abbrev main_v61 : Ref sig .tc := ⟨.hbm, 113, rfl⟩
abbrev main_cst_34 : Ref sig .tc := ⟨.hbm, 114, rfl⟩
abbrev main_v62 : Ref sig .tc := ⟨.hbm, 115, rfl⟩
abbrev main_cst_35 : Ref sig .tc := ⟨.hbm, 116, rfl⟩
abbrev main_call10_v0 : Ref sig .tc := ⟨.hbm, 117, rfl⟩
abbrev main_v63 : Ref sig .tc := ⟨.hbm, 118, rfl⟩
abbrev main_cst_36 : Ref sig .tc := ⟨.hbm, 119, rfl⟩
abbrev main_call11_v0 : Ref sig .tc := ⟨.hbm, 120, rfl⟩
abbrev main_v64 : Ref sig .tc := ⟨.hbm, 121, rfl⟩
abbrev main_v65 : Ref sig .tc := ⟨.hbm, 122, rfl⟩
abbrev main_c_37 : Ref sig .tc := ⟨.hbm, 123, rfl⟩
abbrev main_v66 : Ref sig .tc := ⟨.hbm, 124, rfl⟩
abbrev main_c_38 : Ref sig .tc := ⟨.hbm, 125, rfl⟩
abbrev main_v67 : Ref sig .tc := ⟨.hbm, 126, rfl⟩
abbrev main_v68 : Ref sig .tc := ⟨.hbm, 127, rfl⟩
abbrev main_cst_39 : Ref sig .tc := ⟨.hbm, 128, rfl⟩
abbrev main_v69 : Ref sig .tc := ⟨.hbm, 129, rfl⟩
abbrev main_cst_40 : Ref sig .tc := ⟨.hbm, 130, rfl⟩
abbrev main_call12_v0 : Ref sig .tc := ⟨.hbm, 131, rfl⟩
abbrev main_v70 : Ref sig .tc := ⟨.hbm, 132, rfl⟩
abbrev main_cst_41 : Ref sig .tc := ⟨.hbm, 133, rfl⟩
abbrev main_call13_v0 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_cst_42 : Ref sig .tc := ⟨.hbm, 138, rfl⟩
abbrev main_v74 : Ref sig .tc := ⟨.hbm, 139, rfl⟩
abbrev main_cst_43 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_c_44 : Ref sig .tc := ⟨.hbm, 144, rfl⟩
abbrev main_v78 : Ref sig .tc := ⟨.hbm, 145, rfl⟩
abbrev main_v79 : Ref sig .tc := ⟨.hbm, 146, rfl⟩
abbrev main_cst_45 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_c_46 : Ref sig .tc := ⟨.hbm, 153, rfl⟩
abbrev main_v85 : Ref sig .tc := ⟨.hbm, 154, rfl⟩
abbrev main_v86 : Ref sig .tc := ⟨.hbm, 155, rfl⟩
abbrev main_c_47 : Ref sig .tc := ⟨.hbm, 156, rfl⟩
abbrev main_call14_v0 : Ref sig .tc := ⟨.hbm, 157, rfl⟩
abbrev main_call14_v1 : Ref sig .tc := ⟨.hbm, 158, rfl⟩
abbrev main_v87 : Ref sig .tc := ⟨.hbm, 159, rfl⟩
abbrev main_c_48 : Ref sig .tc := ⟨.hbm, 160, rfl⟩
abbrev main_v88 : Ref sig .tc := ⟨.hbm, 161, rfl⟩
abbrev main_c_49 : Ref sig .tc := ⟨.hbm, 162, rfl⟩
abbrev main_v89 : Ref sig .tc := ⟨.hbm, 163, rfl⟩
abbrev main_cst_50 : Ref sig .tc := ⟨.hbm, 164, rfl⟩
abbrev main_v90 : Ref sig .tc := ⟨.hbm, 165, rfl⟩
abbrev main_v91 : Ref sig .tc := ⟨.hbm, 166, rfl⟩
abbrev main_c_51 : Ref sig .tc := ⟨.hbm, 167, rfl⟩
abbrev main_call15_v0 : Ref sig .tc := ⟨.hbm, 168, rfl⟩
abbrev main_v92 : Ref sig .tc := ⟨.hbm, 169, rfl⟩
abbrev main_cst_52 : Ref sig .tc := ⟨.hbm, 170, rfl⟩
abbrev main_v93 : Ref sig .tc := ⟨.hbm, 171, rfl⟩
abbrev main_c_53 : Ref sig .tc := ⟨.hbm, 172, rfl⟩
abbrev main_call16_v0 : Ref sig .tc := ⟨.hbm, 173, rfl⟩
abbrev main_v94 : Ref sig .tc := ⟨.hbm, 174, rfl⟩
abbrev main_c_54 : Ref sig .tc := ⟨.hbm, 175, rfl⟩
abbrev main_v95 : Ref sig .tc := ⟨.hbm, 176, rfl⟩
abbrev main_c_55 : Ref sig .tc := ⟨.hbm, 177, rfl⟩
abbrev main_v96 : Ref sig .tc := ⟨.hbm, 178, rfl⟩
abbrev main_v97 : Ref sig .tc := ⟨.hbm, 179, rfl⟩
abbrev main_cst_56 : Ref sig .tc := ⟨.hbm, 180, rfl⟩
abbrev main_v98 : Ref sig .tc := ⟨.hbm, 181, rfl⟩
abbrev main_cst_57 : Ref sig .tc := ⟨.hbm, 182, rfl⟩
abbrev main_call17_v0 : Ref sig .tc := ⟨.hbm, 183, rfl⟩
abbrev main_v99 : Ref sig .tc := ⟨.hbm, 184, rfl⟩
abbrev main_cst_58 : Ref sig .tc := ⟨.hbm, 185, rfl⟩
abbrev main_call18_v0 : Ref sig .tc := ⟨.hbm, 186, rfl⟩
abbrev main_v100 : Ref sig .tc := ⟨.hbm, 187, rfl⟩
abbrev main_v101 : Ref sig .tc := ⟨.hbm, 188, rfl⟩
abbrev main_c_59 : Ref sig .tc := ⟨.hbm, 189, rfl⟩
abbrev main_v102 : Ref sig .tc := ⟨.hbm, 190, rfl⟩
abbrev main_c_60 : Ref sig .tc := ⟨.hbm, 191, rfl⟩
abbrev main_v103 : Ref sig .tc := ⟨.hbm, 192, rfl⟩
abbrev main_v104 : Ref sig .tc := ⟨.hbm, 193, rfl⟩
abbrev main_cst_61 : Ref sig .tc := ⟨.hbm, 194, rfl⟩
abbrev main_v105 : Ref sig .tc := ⟨.hbm, 195, rfl⟩
abbrev main_cst_62 : Ref sig .tc := ⟨.hbm, 196, rfl⟩
abbrev main_call19_v0 : Ref sig .tc := ⟨.hbm, 197, rfl⟩
abbrev main_v106 : Ref sig .tc := ⟨.hbm, 198, rfl⟩
abbrev main_cst_63 : Ref sig .tc := ⟨.hbm, 199, rfl⟩
abbrev main_call20_v0 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119_0 : Ref sig .tc := ⟨.hbm, 213, rfl⟩
abbrev main_v119_1 : Ref sig .tc := ⟨.hbm, 214, rfl⟩
abbrev main_v119_2 : Ref sig .tc := ⟨.hbm, 215, rfl⟩
abbrev main_v119_3 : Ref sig .tc := ⟨.hbm, 216, rfl⟩
abbrev main_v119_4 : Ref sig .tc := ⟨.hbm, 217, rfl⟩
abbrev main_v119_5 : Ref sig .tc := ⟨.hbm, 218, rfl⟩
abbrev main_v120 : Ref sig .tc := ⟨.hbm, 219, rfl⟩
abbrev main_cst_64 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_cst_65 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_cst_66 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x5760 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14848x5760 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x14848 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x14848 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x5760 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S14848x5760 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x5760 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S14848x5760 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x14848 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.K.Region0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev VO0_2 : View sig .tc .vmem S256x5760 .fp8e4m3 := (Memref.whole cc0_stg2_0 : Memref sig .tc .vmem S256x5760 .fp8e4m3).view
abbrev VO0_3 : View sig .tc .vmem S16x5760 .bf16 := (Memref.whole cc0_stg3_0 : Memref sig .tc .vmem S16x5760 .bf16).view
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5760 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5760 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x5760 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
noncomputable def kernelRun0_A (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) :
    Σ' (L2 : List (View.Piece (Elt F) S256x5760 .fp8e4m3)), { L3 : List (View.Piece (Elt F) S16x5760 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_xq i arg1 harg1 arg2 harg2 arg3 harg3 arg4 harg4) K } := by
  refine ⟨?_, ?_, fun E K => ?run⟩
  case run =>
    simp only [cc0_xq_eq_skeleton]; unfold cc0_xq_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover0_A_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) (y : S256x5760.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S256x5760.size (by sl_kernel_rfl) y

def out0_A_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) : Vec F S256x5760 .fp8e4m3 :=
  VO0_2.read (Elt F) (VO0_2.writes (Elt F) VO0_2.junk (kernelRun0_A c i arg1 harg1 arg2 harg2 arg3 harg3 arg4 harg4 hc0 x0 x1).1)

theorem cover0_A_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) (y : S16x5760.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S16x5760.size (by sl_kernel_rfl) y

def out0_A_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) : Vec F S16x5760 .bf16 :=
  VO0_3.read (Elt F) (VO0_3.writes (Elt F) VO0_3.junk (kernelRun0_A c i arg1 harg1 arg2 harg2 arg3 harg3 arg4 harg4 hc0 x0 x1).2.1)

-- (the run's proof term is large: the definition's epilogue — `abstractNestedProofs` — walks it past the default budget)
set_option maxHeartbeats 1000000 in
noncomputable def kernelRun0_B (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) :
    Σ' (L2 : List (View.Piece (Elt F) S256x5760 .fp8e4m3)), { L3 : List (View.Piece (Elt F) S16x5760 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_xq i arg1 harg1 arg2 harg2 arg3 harg3 arg4 harg4) K } := by
  refine ⟨?_, ?_, fun E K => ?run⟩
  case run =>
    simp only [cc0_xq_eq_skeleton]; unfold cc0_xq_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover0_B_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) (y : S256x5760.Idx) :
    ∃ pc ∈ (kernelRun0_B c i arg1 harg1 arg2 harg2 arg3 harg3 arg4 harg4 hc0 x0 x1 xo3).1, y ∈ pc.1.set :=
  View.cover_of_tiledL (kernelRun0_B c i arg1 harg1 arg2 harg2 arg3 harg3 arg4 harg4 hc0 x0 x1 xo3).1 S256x5760.size (by sl_kernel_rfl) y

def out0_B_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) : Vec F S256x5760 .fp8e4m3 :=
  VO0_2.read (Elt F) (VO0_2.writes (Elt F) VO0_2.junk (kernelRun0_B c i arg1 harg1 arg2 harg2 arg3 harg3 arg4 harg4 hc0 x0 x1 xo3).1)

theorem cover0_B_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) (y : S16x5760.Idx) :
    ∃ pc ∈ (kernelRun0_B c i arg1 harg1 arg2 harg2 arg3 harg3 arg4 harg4 hc0 x0 x1 xo3).2.1, y ∈ pc.1.set :=
  View.cover_of_tiledL (kernelRun0_B c i arg1 harg1 arg2 harg2 arg3 harg3 arg4 harg4 hc0 x0 x1 xo3).2.1 S16x5760.size (by sl_kernel_rfl) y

def out0_B_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) : Vec F S16x5760 .bf16 :=
  VO0_3.read (Elt F) (VO0_3.writes (Elt F) VO0_3.junk (kernelRun0_B c i arg1 harg1 arg2 harg2 arg3 harg3 arg4 harg4 hc0 x0 x1 xo3).2.1)

def outsAt0 (c : Dev nD) : (n : ℕ) → n < cfg0.N → Vec F S256x5760 .fp8e4m3 × Vec F S16x5760 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 16 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _)
    unfold owns; iexists _; isplitr
    swap; · iexact H3
    ipureintro; exact View.read_writes_of_cover _ _ _ _ _ (cover0_B_3 c _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen.H

end
-- ==== Proof.K.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 58 = 0 :=
  (fun t => by
    have ht : t.val < 58 := Nat.lt_of_lt_of_eq t.isLt N_1
    have e0 : (grid1.coords t 0).val = t.val / 1 % 58 := Pipeline.Grid.coords_val t 0 (by decide) rfl
    simp only [cond1_0, e0]
    word_cmp
   : ∀ t : Fin grid1.N, cond1_0 (grid1.coords t) ↔ t.val % 58 = 0)

abbrev VO1_4 : View sig .tc .vmem S4096x256 .bf16 := (Memref.whole cc1_stg4_0 : Memref sig .tc .vmem S4096x256 .bf16).view
abbrev VO1_5 : View sig .tc .vmem S256x5760 .f32 := (Memref.whole cc1_stg5_0 : Memref sig .tc .vmem S256x5760 .f32).view
abbrev VO1_6 : View sig .tc .vmem S256x5760 .fp8e4m3 := (Memref.whole cc1_stg6_0 : Memref sig .tc .vmem S256x5760 .fp8e4m3).view
abbrev VO1_7 : View sig .tc .vmem S4096x256 .fp8e5m2 := (Memref.whole cc1_stg7_0 : Memref sig .tc .vmem S4096x256 .fp8e5m2).view
abbrev VO1_8 : View sig .tc .vmem S16x5760 .bf16 := (Memref.whole cc1_stg8_0 : Memref sig .tc .vmem S16x5760 .bf16).view
abbrev VO1_9 : View sig .tc .vmem S16x256 .bf16 := (Memref.whole cc1_stg9_0 : Memref sig .tc .vmem S16x256 .bf16).view
abbrev ms1_0 (t : Fin cfg1.N) : Memref sig .tc .smem S6 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x5760 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x5760 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x5760 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x5760 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4096x256 .fp8e5m2 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S16x5760 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S16x256 .bf16 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
noncomputable def kernelRun1_A (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) :
    Σ' (L4 : List (View.Piece (Elt F) S4096x256 .bf16)), Σ' (L5 : List (View.Piece (Elt F) S256x5760 .f32)), Σ' (L6 : List (View.Piece (Elt F) S256x5760 .fp8e4m3)), Σ' (L7 : List (View.Piece (Elt F) S4096x256 .fp8e5m2)), Σ' (L8 : List (View.Piece (Elt F) S16x5760 .bf16)), { L9 : List (View.Piece (Elt F) S16x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_ydw i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_ydw_eq_skeleton]; unfold cc1_ydw_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

theorem cover1_A_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S4096x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).1 S4096x256.size (by sl_kernel_rfl) y

def out1_A_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S4096x256 .bf16 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 hc0 x0 x1 x2 x3).1)

theorem cover1_A_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S256x5760.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.1 S256x5760.size (by sl_kernel_rfl) y

def out1_A_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S256x5760 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 hc0 x0 x1 x2 x3).2.1)

theorem cover1_A_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S256x5760.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.1 S256x5760.size (by sl_kernel_rfl) y

def out1_A_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S256x5760 .fp8e4m3 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 hc0 x0 x1 x2 x3).2.2.1)

theorem cover1_A_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S4096x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.2.1 S4096x256.size (by sl_kernel_rfl) y

def out1_A_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S4096x256 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 x0 x1 x2 x3).2.2.2.1)

theorem cover1_A_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S16x5760.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.2.2.1 S16x5760.size (by sl_kernel_rfl) y

def out1_A_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S16x5760 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 x0 x1 x2 x3).2.2.2.2.1)

theorem cover1_A_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S16x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.2.2.2.1 S16x256.size (by sl_kernel_rfl) y

def out1_A_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S16x256 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 x0 x1 x2 x3).2.2.2.2.2.1)

-- (the run's proof term is large: the definition's epilogue — `abstractNestedProofs` — walks it past the default budget)
set_option maxHeartbeats 1000000 in
noncomputable def kernelRun1_B (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) :
    Σ' (L4 : List (View.Piece (Elt F) S4096x256 .bf16)), Σ' (L5 : List (View.Piece (Elt F) S256x5760 .f32)), Σ' (L6 : List (View.Piece (Elt F) S256x5760 .fp8e4m3)), Σ' (L7 : List (View.Piece (Elt F) S4096x256 .fp8e5m2)), Σ' (L8 : List (View.Piece (Elt F) S16x5760 .bf16)), { L9 : List (View.Piece (Elt F) S16x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_ydw i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_ydw_eq_skeleton]; unfold cc1_ydw_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

theorem cover1_B_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S4096x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).1 S4096x256.size (by sl_kernel_rfl) y

def out1_B_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S4096x256 .bf16 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 hc0 x0 x1 x2 x3 xo8 xo9).1)

theorem cover1_B_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S256x5760.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.1 S256x5760.size (by sl_kernel_rfl) y

def out1_B_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S256x5760 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 hc0 x0 x1 x2 x3 xo8 xo9).2.1)

theorem cover1_B_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S256x5760.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.1 S256x5760.size (by sl_kernel_rfl) y

def out1_B_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S256x5760 .fp8e4m3 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 hc0 x0 x1 x2 x3 xo8 xo9).2.2.1)

theorem cover1_B_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S4096x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.2.1 S4096x256.size (by sl_kernel_rfl) y

def out1_B_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S4096x256 .fp8e5m2 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 x0 x1 x2 x3 xo8 xo9).2.2.2.1)

theorem cover1_B_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S16x5760.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.2.2.1 S16x5760.size (by sl_kernel_rfl) y

def out1_B_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S16x5760 .bf16 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 x0 x1 x2 x3 xo8 xo9).2.2.2.2.1)

theorem cover1_B_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S16x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.2.2.2.1 S16x256.size (by sl_kernel_rfl) y

def out1_B_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S16x256 .bf16 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 x0 x1 x2 x3 xo8 xo9).2.2.2.2.2.1)

def outsAt1 (c : Dev nD) : (n : ℕ) → n < cfg1.N → Vec F S4096x256 .bf16 × Vec F S256x5760 .f32 × Vec F S256x5760 .fp8e4m3 × Vec F S4096x256 .fp8e5m2 × Vec F S16x5760 .bf16 × Vec F S16x256 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 58 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2)

theorem outsAt1_A (c : Dev nD) (t : Fin cfg1.N) (h0 : t.val % 58 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 58 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]
theorem after1_9 (c : Dev nD) (t : Fin cfg1.N) : (dat1 V c).after 9 t = (outsAt1 V c t.val t.isLt).2.2.2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_8_B (c : Dev nD) (t : Fin cfg1.N) (h0 : ¬t.val % 58 = 0) (d) :
    (dat1 V c).before 8 t d = (outsAt1 V c (t.val - 1) (Nat.lt_of_le_of_lt (Nat.sub_le _ _) t.isLt)).2.2.2.2.1 := by
  have hN : t.val < 58 := lt_of_lt_of_eq t.isLt (show cfg1.N = 58 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_B (c : Dev nD) (t : Fin cfg1.N) (h0 : ¬t.val % 58 = 0) (d) :
    (dat1 V c).before 9 t d = (outsAt1 V c (t.val - 1) (Nat.lt_of_le_of_lt (Nat.sub_le _ _) t.isLt)).2.2.2.2.2 := by
  have hN : t.val < 58 := lt_of_lt_of_eq t.isLt (show cfg1.N = 58 from N_1)
  rw [Dat.before_out_kept _ 9 rfl t (by omega) (Bool.eq_false_iff.mpr fun h => by have := (flush1_9 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 58 := lt_of_lt_of_eq t.isLt (show cfg1.N = 58 from N_1)
  by_cases h0 : t.val % 58 = 0
  · rw [outsAt1_A V c t h0]
    unfold out1_A_4 out1_A_5 out1_A_6 out1_A_7 out1_A_8 out1_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _)
  · rw [outsAt1_B V c t h0]
    simp only [before1_8_B V c t h0, before1_9_B V c t h0]
    unfold out1_B_4 out1_B_5 out1_B_6 out1_B_7 out1_B_8 out1_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) _ _).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen.H

end
-- ==== Proof.K.Region2.lean ====
/- The third pallas_call, `cc2_dx`, at the entry contents `V`. Its w-code window and its output window hang over
   the array's edge at the last column block, and nothing states what a fetch leaves past the edge, so what the
   body leaves is stated as a RELATION: the payload of the two code blocks, the second one filled out past the
   edge by some contents. -/
module

public import proofs.«01_k».proof.Proof.K.Region0

@[expose] public section

set_option maxRecDepth 16384

noncomputable section

namespace Cert.Kernel.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev VO2_3 : View sig .tc .vmem S1024x256 .bf16 := (Memref.whole cc2_stg3_0 : Memref sig .tc .vmem S1024x256 .bf16).view
abbrev ms2_0 (t : Fin cfg2.N) : Memref sig .tc .smem S6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x14848 .fp8e5m2 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S14848x256 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)

set_option maxHeartbeats 1000000 in
/-- The body run symbolically: it leaves its inputs and writes the pieces found here. -/
noncomputable def kernelRun2 (c : Dev nD) (i : grid2.Coords) (arg1 : Memref sig .tc .smem S6 .f32) (harg1 : arg1.IsWhole) (arg2 : Memref sig .tc .vmem S1024x14848 .fp8e5m2) (harg2 : arg2.IsWhole) (arg3 : Memref sig .tc .vmem S14848x256 .fp8e4m3) (harg3 : arg3.IsWhole) (arg4 : Memref sig .tc .vmem S1024x256 .bf16) (harg4 : arg4.IsWhole)
    (x0 : Vec F S6 .f32) (x1 : Vec F S1024x14848 .fp8e5m2) (x2 : Vec F S14848x256 .fp8e4m3) :
    { L3 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2_dx i arg1 harg1 arg2 harg2 arg3 harg3 arg4 harg4) K } := by
  refine ⟨?_, fun E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

theorem cover2_3 (c : Dev nD) (i : grid2.Coords) (arg1 : Memref sig .tc .smem S6 .f32) (harg1 : arg1.IsWhole) (arg2 : Memref sig .tc .vmem S1024x14848 .fp8e5m2) (harg2 : arg2.IsWhole) (arg3 : Memref sig .tc .vmem S14848x256 .fp8e4m3) (harg3 : arg3.IsWhole) (arg4 : Memref sig .tc .vmem S1024x256 .bf16) (harg4 : arg4.IsWhole)
    (x0 : Vec F S6 .f32) (x1 : Vec F S1024x14848 .fp8e5m2) (x2 : Vec F S14848x256 .fp8e4m3) (y : S1024x256.Idx) :
    ∃ pc ∈ (kernelRun2 c i arg1 harg1 arg2 harg2 arg3 harg3 arg4 harg4 x0 x1 x2).1, y ∈ pc.1.set :=
  View.cover_of_tiledL (kernelRun2 c i arg1 harg1 arg2 harg2 arg3 harg3 arg4 harg4 x0 x1 x2).1 S1024x256.size (by sl_kernel_rfl) y

/-- What the body leaves in the output's staging buffer. -/
def out2_3 (c : Dev nD) (i : grid2.Coords) (arg1 : Memref sig .tc .smem S6 .f32) (harg1 : arg1.IsWhole) (arg2 : Memref sig .tc .vmem S1024x14848 .fp8e5m2) (harg2 : arg2.IsWhole) (arg3 : Memref sig .tc .vmem S14848x256 .fp8e4m3) (harg3 : arg3.IsWhole) (arg4 : Memref sig .tc .vmem S1024x256 .bf16) (harg4 : arg4.IsWhole)
    (x0 : Vec F S6 .f32) (x1 : Vec F S1024x14848 .fp8e5m2) (x2 : Vec F S14848x256 .fp8e4m3) : Vec F S1024x256 .bf16 :=
  VO2_3.read (Elt F) (VO2_3.writes (Elt F) VO2_3.junk (kernelRun2 c i arg1 harg1 arg2 harg2 arg3 harg3 arg4 harg4 x0 x1 x2).1)

/-- The same at point `t`'s staging buffers, the w-code block filled out past the edge with `d`. -/
def outAt2 (c : Dev nD) (t : Fin cfg2.N) (d : S14848x256.Idx → Elt F .fp8e4m3) : Vec F S1024x256 .bf16 :=
  out2_3 c (grid2.coords t) (ms2_0 t) (hs2_0 t) (ms2_1 t) (hs2_1 t) (ms2_2 t) (hs2_2 t) (ms2_3 t) (hs2_3 t) (iblk2 V c 0 t) (iblk2 V c 1 t)
    (win2_2.fill (grid2.coords t) d (iblk2 V c 2 t))

/-- Exact data for the windows it can be exact about (0 and 1); the other two are overridden below. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => fun _ => Classical.arbitrary _
    | ⟨3, _⟩ => fun _ => Classical.arbitrary _
  Φ _ := Pipeline.ΦA spec2 c
  q _ := fullShare
  owed _ := 0

/-- What the body leaves in the two windows over the edge: the w codes as found, the output some `outAt2`. -/
def ovr2 (c : Dev nD) : (w : Fin cfg2.W) → Option (Fin cfg2.N → (Y X : (cfg2.win w).block.Idx → Elt F (cfg2.win w).elt) → Prop)
  | ⟨0, _⟩ => none
  | ⟨1, _⟩ => none
  | ⟨2, _⟩ => some fun _ Y X => X = Y
  | ⟨3, _⟩ => some fun t _ X => ∃ d, X = outAt2 V c t d

def rdat2 (c : Dev nD) : RDat τ (Elt F) Unit ℕ (UR sig nD τ) ℕ cfg2 c := (dat2 V c).toR.override (ovr2 V c)

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem finds2_0 (c : Dev nD) (t : Fin cfg2.N) (X) (h : (rdat2 V c).Finds 0 t X) : X = iblk2 V c 0 t := by
  obtain ⟨d, hd⟩ := ((dat2 V c).toR_finds 0 t X) (((dat2 V c).toR.override_finds rfl t X).mp h)
  rw [hd, before2_0]
theorem finds2_1 (c : Dev nD) (t : Fin cfg2.N) (X) (h : (rdat2 V c).Finds 1 t X) : X = iblk2 V c 1 t := by
  obtain ⟨d, hd⟩ := ((dat2 V c).toR_finds 1 t X) (((dat2 V c).toR.override_finds rfl t X).mp h)
  rw [hd, before2_1]
theorem finds2_2 (c : Dev nD) (t : Fin cfg2.N) (X) (h : (rdat2 V c).Finds 2 t X) :
    ∃ d, X = win2_2.fill (grid2.coords t) d (iblk2 V c 2 t) := by
  obtain ⟨d, hd⟩ := ((rdat2 V c).finds_of_fetch (fetch2_2 t) X).mp h
  exact ⟨d, hd⟩

/-- What the output's buffer may be left at. -/
theorem leaves2_3 (c : Dev nD) (t : Fin cfg2.N) (X) (h : (rdat2 V c).Leaves 3 t X) : ∃ d, X = outAt2 V c t d := by
  obtain ⟨Y, -, h⟩ := h
  exact h

theorem after2_in (c : Dev nD) (t : Fin cfg2.N) (Y) : (rdat2 V c).after 0 t Y (iblk2 V c 0 t) ∧ ((∀ Y, (rdat2 V c).after 1 t Y (iblk2 V c 1 t))) := by
  constructor
  · show (dat2 V c).Leaves 0 t _
    exact (after2_0 V c t)
  · intro Y
    show (dat2 V c).Leaves 1 t _
    exact (after2_1 V c t)

theorem defs₀_row2 (t : Fin cfg2.N) :
    defs₀ (F := F) .tc cfg2.body (cfg2.bodyArgs t (cfg2.slots t)) = bodyAt2 t := by
  unfold defs₀; rw [Defs.onTc_tc]

set_option maxHeartbeats 800000 in
theorem body_obligation2 (c : Dev nD) : (rdat2 (F := F) V c).BodyObligation (defs₀ (F := F)) Variants.none () Set.univ := fun t Y hY => by
  rw [bigSep_W2, bigSep_W2, defs₀_row2]
  have h0 := finds2_0 V c t _ (hY 0)
  have h1 := finds2_1 V c t _ (hY 1)
  obtain ⟨d, h2⟩ := finds2_2 V c t _ (hY 2)
  rw [show (rdat2 V c).Φ t.succ = (rdat2 V c).Φ t.castSucc from rfl,
    show (rdat2 V c).owesAt () t.succ = (rdat2 V c).owesAt () t.castSucc from rfl, h0, h1, h2]
  unfold bodyAt2
  iintro ⟨HΦ, Ho, H0, H1, H2, H3⟩
  iapply ((kernelRun2 c (grid2.coords t) _ (hs2_0 t) _ (hs2_1 t) _ (hs2_2 t) _ (hs2_3 t) (iblk2 V c 0 t) (iblk2 V c 1 t) (win2_2.fill (grid2.coords t) d (iblk2 V c 2 t))).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]
  · iexists _; isplitr; · ipureintro; exact (after2_in V c t _).1
    iexact H0
  isplitl [H1]
  · iexists _; isplitr; · ipureintro; exact (after2_in V c t (iblk2 V c 0 t)).2 _
    iexact H1
  isplitl [H2]
  · iexists _; isplitr; swap; · iexact H2
    ipureintro; exact rfl
  iexists _; isplitr
  · ipureintro; exact ⟨d, rfl⟩
  unfold owns; iexists _; isplitr
  swap; · iexact H3
  ipureintro; unfold outAt2 out2_3; exact View.read_writes_of_cover _ _ _ _ _ (cover2_3 c _ _ _ _ _ _ _ _ _ _ _ _)

end Cert.Kernel.Gen.H

end
-- ==== Proof.K.Whole.lean ====
/- The whole program's run at any float values: the host prefix, the three pallas_calls, the host tail. What the
   buffers hold at the end is a valuation `W41` that depends on one thing nothing names exactly, the contents `γ`
   of the dx array, of which `RDat.ArrAt` is known. -/
module

public import proofs.«01_k».proof.Proof.Gen.Kernel.Regions
public import proofs.«01_k».proof.Proof.K.Region0
public import proofs.«01_k».proof.Proof.K.Region1
public import proofs.«01_k».proof.Proof.K.Region2
public import Idealize.ShloMosaic.Lib.Pipeline.RegionsOwned

@[expose] public section

set_option maxRecDepth 16384

noncomputable section

namespace Cert.Kernel.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries after the host prefix -/

/-- Core `c`'s buffers when the first pallas_call is entered. -/
abbrev E37 : (c : Dev nD) → (b : Ref sig .tc) → Buf (Elt F) ((c : Thread nD τ).loc b) := fun c b => V37 m c b

/-- At region 0's exit. -/
def W38 (c : Dev nD) : Valuation τ sig (Elt F) :=
  Pipeline.withArrays spec0 c (V37 m c) fun w => (dat0 (E37 m) c).arrAt w cfg0.N
theorem W38_arr (c : Dev nD) (w : Fin cfg0.W) :
    W38 m c (Proc.devRef .tc (Pipeline.arrRef spec0 w)) = (dat0 (E37 m) c).arrAt w cfg0.N := by
  unfold W38; exact Pipeline.withArrays_arr spec0 launch0.win.arr_inj c _ _ w
theorem W38_of_ne (c : Dev nD) (b : Ref sig .tc) (hb : ∀ w, Pipeline.arrRef spec0 w ≠ b) :
    W38 m c (Proc.devRef .tc b) = V37 m c (Proc.devRef .tc b) := by
  unfold W38; exact Pipeline.withArrays_of_ne spec0 c _ _ b hb
theorem W38_of (c : Dev nD) (r : Ref sig .tc) (h : ∀ w : Fin cfg0.W, Pipeline.arrRef spec0 w = r → (cfg0.win w).isOut = false) :
    W38 m c (Proc.devRef .tc r) = V37 m c (Proc.devRef .tc r) := by
  by_cases hw : ∃ w : Fin cfg0.W, Pipeline.arrRef spec0 w = r
  · obtain ⟨w, rfl⟩ := hw
    exact (W38_arr m c w).trans (((dat0 (E37 m) c).arrAt_in w (h w rfl) _).trans (A_eq0 (E37 m) c w))
  · exact W38_of_ne m c r fun w e => hw ⟨w, e⟩
abbrev E38 : (c : Dev nD) → (b : Ref sig .tc) → Buf (Elt F) ((c : Thread nD τ).loc b) := fun c b => W38 m c b

/-- At region 1's exit. -/
def W39 (c : Dev nD) : Valuation τ sig (Elt F) :=
  Pipeline.withArrays spec1 c (W38 m c) fun w => (dat1 (E38 m) c).arrAt w cfg1.N
theorem W39_arr (c : Dev nD) (w : Fin cfg1.W) :
    W39 m c (Proc.devRef .tc (Pipeline.arrRef spec1 w)) = (dat1 (E38 m) c).arrAt w cfg1.N := by
  unfold W39; exact Pipeline.withArrays_arr spec1 launch1.win.arr_inj c _ _ w
theorem W39_of_ne (c : Dev nD) (b : Ref sig .tc) (hb : ∀ w, Pipeline.arrRef spec1 w ≠ b) :
    W39 m c (Proc.devRef .tc b) = W38 m c (Proc.devRef .tc b) := by
  unfold W39; exact Pipeline.withArrays_of_ne spec1 c _ _ b hb
theorem W39_of (c : Dev nD) (r : Ref sig .tc) (h : ∀ w : Fin cfg1.W, Pipeline.arrRef spec1 w = r → (cfg1.win w).isOut = false) :
    W39 m c (Proc.devRef .tc r) = W38 m c (Proc.devRef .tc r) := by
  by_cases hw : ∃ w : Fin cfg1.W, Pipeline.arrRef spec1 w = r
  · obtain ⟨w, rfl⟩ := hw
    exact (W39_arr m c w).trans (((dat1 (E38 m) c).arrAt_in w (h w rfl) _).trans (A_eq1 (E38 m) c w))
  · exact W39_of_ne m c r fun w e => hw ⟨w, e⟩
abbrev E39 : (c : Dev nD) → (b : Ref sig .tc) → Buf (Elt F) ((c : Thread nD τ).loc b) := fun c b => W39 m c b

/-- What the dx array may hold at region 2's exit. -/
abbrev Γ (c : Dev nD) : Type :=
  { f : Buf (Elt F) ((cfg2.win 3).arr.view.loc (c.tc : Thread nD τ)) // (rdat2 (E39 m) c).ArrAt 3 cfg2.N f }

/-- Region 2's arrays at its exit: the inputs as entered, the output at `γ`. -/
def arrs2 (c : Dev nD) (γ : Γ m c) : (w : Fin cfg2.W) → Buf (Elt F) ((cfg2.win w).arr.view.loc (c.tc : Thread nD τ))
  | ⟨0, _⟩ => (dat2 (E39 m) c).A 0
  | ⟨1, _⟩ => (dat2 (E39 m) c).A 1
  | ⟨2, _⟩ => (dat2 (E39 m) c).A 2
  | ⟨3, _⟩ => γ.1

/-- At region 2's exit. -/
def W40 (c : Dev nD) (γ : Γ m c) : Valuation τ sig (Elt F) :=
  Pipeline.withArrays spec2 c (W39 m c) (arrs2 m c γ)
theorem W40_arr (c : Dev nD) (γ : Γ m c) (w : Fin cfg2.W) :
    W40 m c γ (Proc.devRef .tc (Pipeline.arrRef spec2 w)) = arrs2 m c γ w := by
  unfold W40; exact Pipeline.withArrays_arr spec2 launch2.win.arr_inj c _ _ w
theorem W40_of_ne (c : Dev nD) (γ : Γ m c) (b : Ref sig .tc) (hb : ∀ w, Pipeline.arrRef spec2 w ≠ b) :
    W40 m c γ (Proc.devRef .tc b) = W39 m c (Proc.devRef .tc b) := by
  unfold W40; exact Pipeline.withArrays_of_ne spec2 c _ _ b hb
theorem arrs2_in (c : Dev nD) (γ : Γ m c) : (w : Fin cfg2.W) → (cfg2.win w).isOut = false → arrs2 m c γ w = E39 m c (Pipeline.arrRef spec2 w)
  | ⟨0, _⟩, _ => A_eq2 (E39 m) c 0
  | ⟨1, _⟩, _ => A_eq2 (E39 m) c 1
  | ⟨2, _⟩, _ => A_eq2 (E39 m) c 2
  | ⟨3, _⟩, h => absurd h Bool.noConfusion
theorem W40_of (c : Dev nD) (γ : Γ m c) (r : Ref sig .tc) (h : ∀ w : Fin cfg2.W, Pipeline.arrRef spec2 w = r → (cfg2.win w).isOut = false) :
    W40 m c γ (Proc.devRef .tc r) = W39 m c (Proc.devRef .tc r) := by
  by_cases hw : ∃ w : Fin cfg2.W, Pipeline.arrRef spec2 w = r
  · obtain ⟨w, rfl⟩ := hw
    exact (W40_arr m c γ w).trans (arrs2_in m c γ w (h w rfl))
  · exact W40_of_ne m c γ r fun w e => hw ⟨w, e⟩

/-- At the end. -/
abbrev W41 (c : Dev nD) (γ : Γ m c) : Valuation τ sig (Elt F) := StableHlo.after hostOps3 (W40 m c γ)
theorem W41_of (c : Dev nD) (γ : Γ m c) (r : Ref sig .tc) (h : r ∉ hostOps3_W) :
    W41 m c γ (Proc.devRef .tc r) = W40 m c γ (Proc.devRef .tc r) :=
  StableHlo.after_of_writes_sub hostOps3 _ hostOps3_writes h

/-! ## The arguments end as launched -/

abbrev argRefs : List (Ref sig .tc) := [main_arg0, main_arg1, main_arg2, main_arg3]
/-- Contents at the boundaries under which every region leaves what it found: only for reading the prefix. -/
def outs0 : Outs (F := F) := fun _ r c => V37 m c r
theorem V37_args (c : Dev nD) : ∀ a ∈ argRefs, V37 m c (Proc.devRef .tc a) = m ((c : Thread nD τ).loc a) := by
  have key : ∀ a : Ref sig .tc, a ∉ hostOps3_W → a ∉ ([main_v113] : List (Ref sig .tc)) →
      a ∉ ([main_v112_0, main_v112_1, main_v112_2, main_v112_3, main_v112_4, main_v112_5] : List (Ref sig .tc)) →
      a ∉ ([main_v111_0, main_v111_1] : List (Ref sig .tc)) → V37 m c (Proc.devRef .tc a) = V41 m (outs0 m) c (Proc.devRef .tc a) := fun a h3 h2 h1 h0 =>
    ((V41_of m (outs0 m) c a h3).trans <| (V40_of m (outs0 m) c a h2).trans <| (V39_of m (outs0 m) c a h1).trans (V38_of m (outs0 m) c a h0)).symm
  intro a ha
  rcases List.mem_cons.mp ha with rfl | ha
  · exact (key main_arg0 (by decide) (by decide) (by decide) (by decide)).trans (V41_main_arg0 m (outs0 m) c)
  rcases List.mem_cons.mp ha with rfl | ha
  · exact (key main_arg1 (by decide) (by decide) (by decide) (by decide)).trans (V41_main_arg1 m (outs0 m) c)
  rcases List.mem_cons.mp ha with rfl | ha
  · exact (key main_arg2 (by decide) (by decide) (by decide) (by decide)).trans (V41_main_arg2 m (outs0 m) c)
  rcases List.mem_cons.mp ha with rfl | ha
  · exact (key main_arg3 (by decide) (by decide) (by decide) (by decide)).trans (V41_main_arg3 m (outs0 m) c)
  · exact absurd ha (List.not_mem_nil)
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem argsTail : ∀ a ∈ argRefs, a ∉ hostOps3_W := ListAll.forall_mem_of_all_decide (by decide +kernel)
theorem W41_args (c : Dev nD) (γ : Γ m c) : ∀ a ∈ argRefs, W41 m c γ (Proc.devRef .tc a) = m ((c : Thread nD τ).loc a) :=
  fun a ha => (W41_of m c γ a (argsTail a ha)).trans <| (W40_of m c γ a (argsIn2 a ha)).trans <|
    (W39_of m c a (argsIn1 a ha)).trans <| (W38_of m c a (argsIn0 a ha)).trans (V37_args m c a ha)

/-! ## The proof data family and the thread state -/

/-- Exact data per pipeline, region 2's only for its entry contents. -/
def pdats : (p : Fin 3) → (c : Dev nD) → Dat τ (Elt F) Unit ℕ (UR sig nD τ) ℕ (Pipeline.pin (pcfgs (F := F)) adm p) c
  | ⟨0, _⟩ => fun c => dat0 (E37 m) c
  | ⟨1, _⟩ => fun c => dat1 (E38 m) c
  | ⟨2, _⟩ => fun c => dat2 (E39 m) c
/-- The relational data the run uses. -/
def rdats : (p : Fin 3) → (c : Dev nD) → RDat τ (Elt F) Unit ℕ (UR sig nD τ) ℕ (Pipeline.pin (pcfgs (F := F)) adm p) c
  | ⟨0, _⟩ => fun c => (dat0 (E37 m) c).toR
  | ⟨1, _⟩ => fun c => (dat1 (E38 m) c).toR
  | ⟨2, _⟩ => fun c => rdat2 (E39 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev RE : Fin 4 → Dev nD → sProp 𝕄 := fun _ => R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues. -/
abbrev Tₙ (c : Dev nD) : sProp 𝕄 := iprop((∃ γ, StableHlo.held (c : Thread nD τ) (Pipeline.ucRefs τ sig) (W41 m c γ)) ∗ ∃ r, prngReg c r)

/-! ## The regions as segments -/

section Records

theorem hF0 (c : Dev nD) (w : Fin cfg0.W) : (dat0 (E37 m) c).arrAt w cfg0.N = E38 m c (Pipeline.arrRef spec0 w) := (W38_arr m c w).symm
theorem hrest0 (c : Dev nD) : ∀ b, b ∉ Finset.univ.image (Pipeline.arrRef spec0) → E38 m c b = E37 m c b :=
  fun b hb => W38_of_ne m c b fun w e => hb (Finset.mem_image.mpr ⟨w, Finset.mem_univ _, e⟩)
theorem hF1 (c : Dev nD) (w : Fin cfg1.W) : (dat1 (E38 m) c).arrAt w cfg1.N = E39 m c (Pipeline.arrRef spec1 w) := (W39_arr m c w).symm
theorem hrest1 (c : Dev nD) : ∀ b, b ∉ Finset.univ.image (Pipeline.arrRef spec1) → E39 m c b = E38 m c b :=
  fun b hb => W39_of_ne m c b fun w e => hb (Finset.mem_image.mpr ⟨w, Finset.mem_univ _, e⟩)
abbrev E40 (γ : (c : Dev nD) → Γ m c) : (c : Dev nD) → (b : Ref sig .tc) → Buf (Elt F) ((c : Thread nD τ).loc b) := fun c b => W40 m c (γ c) b
theorem hrest2 (c : Dev nD) (γ : Γ m c) : ∀ b, b ∉ Finset.univ.image (Pipeline.arrRef spec2) → W40 m c γ (Proc.devRef .tc b) = E39 m c b :=
  fun b hb => W40_of_ne m c γ b fun w e => hb (Finset.mem_image.mpr ⟨w, Finset.mem_univ _, e⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E37 m) c).loose
  hwaits := Pipeline.hwaits_of_owed_zero _ _ _ _ L lv 0 fun _ _ => rfl
  pre c := iprop(StableHlo.held (c : Thread nD τ) (Pipeline.ucRefs τ sig) (V37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec0 c (E37 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E37 m c) (A_eq0 (E37 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E37 m c) (E38 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E38 m) c).loose
  hwaits := Pipeline.hwaits_of_owed_zero _ _ _ _ L lv 1 fun _ _ => rfl
  pre c := iprop(StableHlo.held (c : Thread nD τ) (Pipeline.ucRefs τ sig) (W38 m c) ∗ R c)
  post c := iprop(StableHlo.held (c : Thread nD τ) (Pipeline.ucRefs τ sig) (W39 m c) ∗ R c)
  X c := iprop(∃ r, prngReg c r)
  Y c := iprop(∃ r, prngReg c r)
  Z c := Pipeline.unscopedRest (Ix := Unit) (Name := ℕ) (U := UR sig nD τ) (Lvl := ℕ) spec1 c (E38 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E38 m c) (A_eq1 (E38 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E38 m c) (E39 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays at its exit, the output's contents named. -/
theorem exit2 (c : Dev nD) : ((rdat2 (E39 m) c).arraysAt cfg2.N : sProp 𝕄) ⊢ iprop(∃ γ : Γ m c, (dat2 (E39 m) c).arrays (arrs2 m c γ)) := by
  unfold RDat.arraysAt
  refine (BI.bigSep_exists_pi Finset.univ _).trans ?_
  iintro ⟨%A, H⟩
  ihave H' := (BI.bigSep_pure_sep Finset.univ (fun w => (rdat2 (E39 m) c).ArrAt w cfg2.N (A w)) _) $$ H
  icases H' with ⟨%hA, H⟩
  have hin : ∀ w, (cfg2.win w).isOut = false → A w = (dat2 (E39 m) c).A w := fun w hw => by
    have h := hA w (Finset.mem_univ w)
    rw [(rdat2 (E39 m) c).ArrAt_in w hw] at h
    exact h
  have e : A = arrs2 m c ⟨A 3, hA 3 (Finset.mem_univ _)⟩ := funext fun w =>
    match w with
    | ⟨0, _⟩ => hin 0 rfl
    | ⟨1, _⟩ => hin 1 rfl
    | ⟨2, _⟩ => hin 2 rfl
    | ⟨3, _⟩ => rfl
  iexists ⟨A 3, hA 3 (Finset.mem_univ _)⟩
  rw [← e]
  iapply (show bigSep Finset.univ (fun i : Fin cfg2.W => iprop((cfg2.win i).arr.view.loc (c.tc : Thread nD τ) ↦[(cfg2.win i).arr.view.set]{(rdat2 (E39 m) c).share i} A i))
    ⊢ ((dat2 (E39 m) c).arrays A : sProp 𝕄) from .rfl)
  iexact H

set_option backward.isDefEq.respectTransparency.types false in
def rreg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (E39 m) c
  hwaits := Pipeline.RDat.hwaits_of_owed_zero _ _ _ _ L lv 2 fun _ _ => rfl
  pre c := iprop(StableHlo.held (c : Thread nD τ) (Pipeline.ucRefs τ sig) (W39 m c) ∗ R c)
  post c := iprop((∃ γ, StableHlo.held (c : Thread nD τ) (Pipeline.ucRefs τ sig) (W40 m c γ)) ∗ R c)
  X c := iprop(∃ r, prngReg c r)
  Y c := iprop(∃ r, prngReg c r)
  Z c := Pipeline.unscopedRest (Ix := Unit) (Name := ℕ) (U := UR sig nD τ) (Lvl := ℕ) spec2 c (E39 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (E39 m c) (A_eq2 (E39 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha := (show (rdats m 2 c).arraysAt (Pipeline.pin (pcfgs (F := F)) adm 2).N ⊢ iprop(∃ γ : Γ m c, (pdats m 2 c).arrays (arrs2 m c γ)) from exit2 m c) $$ Ha
    icases Ha with ⟨%γ, Ha⟩
    imodintro
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E39 m c) (fun b => W40 m c γ b) (arrs2 m c γ) (fun w => (W40_arr m c γ w).symm) (hrest2 m c γ)
    rw [Pipeline.unscopedBufs_held] at hjoin
    isplitl [Ha Hrest]
    · iexists γ
      iapply hjoin; isplitl [Ha] <;> iassumption
    isplitl [HY]; · iexact HY
    unfold Pipeline.RDat.owesAt Pipeline.owesWithin
    icases HO with ⟨%W, -, HO⟩; iexists W; iexact HO

/-- Regions 0 and 1 read relationally. -/
def rreg0 : Pipeline.RDat.RegionSeg (pcfgs (F := F)) adm (rdats m) () defs₀ 𝒱₀ L lv 0 :=
  let Q := (reg0 m).toR
  { win := Q.win, block_pos := Q.block_pos, stage_whole := Q.stage_whole, K := Q.K, fK := Q.fK, osem := Q.osem, ho := Q.ho
    hbody := Q.hbody, hwaits := Pipeline.RDat.hwaits_of_owed_zero _ _ _ _ L lv 0 fun _ _ => rfl
    pre := Q.pre, post := Q.post, X := Q.X, Y := Q.Y, Z := Q.Z, hentry := Q.hentry, hin := Q.hin, hout := Q.hout, hexit := Q.hexit }

def rreg1 : Pipeline.RDat.RegionSeg (pcfgs (F := F)) adm (rdats m) () defs₀ 𝒱₀ L lv 1 :=
  let Q := (reg1 m).toR
  { win := Q.win, block_pos := Q.block_pos, stage_whole := Q.stage_whole, K := Q.K, fK := Q.fK, osem := Q.osem, ho := Q.ho
    hbody := Q.hbody, hwaits := Pipeline.RDat.hwaits_of_owed_zero _ _ _ _ L lv 1 fun _ _ => rfl
    pre := Q.pre, post := Q.post, X := Q.X, Y := Q.Y, Z := Q.Z, hentry := Q.hentry, hin := Q.hin, hout := Q.hout, hexit := Q.hexit }
end Records

end Cert.Kernel.Gen.H

end
-- ==== Proof.K.Run.lean ====
/- The whole program's run and its frame: @main as segments, launched, and the last thread state read. -/
module

public import proofs.«01_k».proof.Proof.K.Whole

@[expose] public section

set_option maxRecDepth 16384

noncomputable section

namespace Cert.Kernel.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host tail, from the contents after region 2. -/
def segTail : Pipeline.HostSeg (Ix := Unit) (Name := ℕ) (U := UR sig nD τ) (Lvl := ℕ) (pcfgs (F := F)) defs₀ 𝒱₀ L lv :=
  Pipeline.HostSeg.ofOpsEx _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W40 m) R

/-- @main's segments in order. -/
abbrev rsegs : List (Pipeline.RDat.Seg (pcfgs (F := F)) adm (rdats m) () defs₀ 𝒱₀ L lv) :=
  [ .host (seg0 m 𝒱₀ L lv RE),
    .host (seg1 m 𝒱₀ L lv RE),
    .host (seg2 m 𝒱₀ L lv RE),
    .host (seg3 m 𝒱₀ L lv RE),
    .host (seg4 m 𝒱₀ L lv RE),
    .host (seg5 m 𝒱₀ L lv RE),
    .host (seg6 m 𝒱₀ L lv RE),
    .host (seg7 m 𝒱₀ L lv RE),
    .host (seg8 m 𝒱₀ L lv RE),
    .host (seg9 m 𝒱₀ L lv RE),
    .host (seg10 m 𝒱₀ L lv RE),
    .host (seg11 m 𝒱₀ L lv RE),
    .host (seg12 m 𝒱₀ L lv RE),
    .host (seg13 m 𝒱₀ L lv RE),
    .host (seg14 m 𝒱₀ L lv RE),
    .host (seg15 m 𝒱₀ L lv RE),
    .host (seg16 m 𝒱₀ L lv RE),
    .host (seg17 m 𝒱₀ L lv RE),
    .host (seg18 m 𝒱₀ L lv RE),
    .host (seg19 m 𝒱₀ L lv RE),
    .host (seg20 m 𝒱₀ L lv RE),
    .host (seg21 m 𝒱₀ L lv RE),
    .host (seg22 m 𝒱₀ L lv RE),
    .host (seg23 m 𝒱₀ L lv RE),
    .host (seg24 m 𝒱₀ L lv RE),
    .host (seg25 m 𝒱₀ L lv RE),
    .host (seg26 m 𝒱₀ L lv RE),
    .host (seg27 m 𝒱₀ L lv RE),
    .host (seg28 m 𝒱₀ L lv RE),
    .host (seg29 m 𝒱₀ L lv RE),
    .host (seg30 m 𝒱₀ L lv RE),
    .host (seg31 m 𝒱₀ L lv RE),
    .host (seg32 m 𝒱₀ L lv RE),
    .host (seg33 m 𝒱₀ L lv RE),
    .host (seg34 m 𝒱₀ L lv RE),
    .host (seg35 m 𝒱₀ L lv RE),
    .host (seg36 m 𝒱₀ L lv RE),
    .region (rreg0 m), .region (rreg1 m), .region (rreg2 m), .host (segTail m) ]

theorem rmain_run (c : Dev nD) : main (F := F) c = Pipeline.RDat.Seg.run (rsegs m) := (main_chain c).trans (by chain_rfl)

theorem no_unscoped : ∀ sm : SemLoc sig, sm.isScoped .tc = true := by decide

set_option backward.isDefEq.respectTransparency.types false in
/-- Every execution terminates, nothing faulting, with every counter at zero and every unscoped buffer at `W41` of
    some contents of the dx array. -/
theorem run : θ_run defs (onTc (τ := τ) (main (F := F))) ⟨m, fun _ => 0, ρ⟩ (fun r =>
      (∀ c : Dev nD, ∃ γ : Γ m c, ∀ b ∈ Pipeline.ucRefs τ sig, r.2.mem (((c : Thread nD τ)).1, b) = W41 m c γ b)
      ∧ r.2.sem = fun _ => 0) :=
  Pipeline.RDat.θ_run_regions_kit_sems (pcfgs (F := F)) adm (rdats m) () cellOf_inj emb₁ defs₀ 𝒱₀ L lv m ρ main (rsegs m)
    (fun c Q => by rw [rmain_run m c])
    (by simp only [rsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.RDat.Seg.post, segTail, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ γ : Γ m c, ∀ b ∈ Pipeline.ucRefs τ sig, s.mem (((c : Thread nD τ)).1, b) = W41 m c γ b)
    (hfin := fun c s' => by
      iintro ⟨⟨⟨%γ, Hh⟩, -⟩, HSI⟩
      unfold StableHlo.held
      imodintro
      iapply ((pointsTo_read_all (Pipeline.ucRefs τ sig) (fun b => (((c : Thread nD τ)).1, b)) (W41 m c γ) s').trans
        (sep_mono (BI.pure_mono fun h => ⟨γ, h⟩) .rfl))
      isplitl [Hh] <;> iassumption)
    (hQ := fun s h hz => ⟨fun c => h c, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨γ, hγ⟩ := h.1 c
    have key : ∀ a ∈ argRefs, ¬ (Proc.devRef .tc a : DevRef τ sig).isScoped →
        r.2.mem ((c.tc : Thread nD τ).loc a) = m ((c.tc : Thread nD τ).loc a) := fun a ha hs =>
      (hγ _ (mem_uc a hs)).trans (W41_args m c γ a ha)
    exact ⟨key main_arg0 (by decide) (by decide), key main_arg1 (by decide) (by decide),
      key main_arg2 (by decide) (by decide), key main_arg3 (by decide) (by decide)⟩, h.2⟩) (run m ρ)

end Cert.Kernel.Gen.H

end
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev VO0_2 : View sig .tc .vmem S256x5760 .fp8e4m3 := (Memref.whole cc0_stg2_0 : Memref sig .tc .vmem S256x5760 .fp8e4m3).view
abbrev VO0_3 : View sig .tc .vmem S16x5760 .bf16 := (Memref.whole cc0_stg3_0 : Memref sig .tc .vmem S16x5760 .bf16).view
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5760 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5760 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x5760 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
noncomputable def kernelRun0_A (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) :
    Σ' (L2 : List (View.Piece (Elt F) S256x5760 .fp8e4m3)), { L3 : List (View.Piece (Elt F) S16x5760 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_xq i arg1 harg1 arg2 harg2 arg3 harg3 arg4 harg4) K } := by
  refine ⟨?_, ?_, fun E K => ?run⟩
  case run =>
    simp only [cc0_xq_eq_skeleton]; unfold cc0_xq_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover0_A_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) (y : S256x5760.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S256x5760.size (by sl_kernel_rfl) y

def out0_A_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) : Vec F S256x5760 .fp8e4m3 :=
  VO0_2.read (Elt F) (VO0_2.writes (Elt F) VO0_2.junk (kernelRun0_A c i arg1 harg1 arg2 harg2 arg3 harg3 arg4 harg4 hc0 x0 x1).1)

theorem cover0_A_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) (y : S16x5760.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S16x5760.size (by sl_kernel_rfl) y

def out0_A_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : cond0_0 i)
    (x0 : Vec F S6 .f32) (x1 : Vec F S256x5760 .bf16) : Vec F S16x5760 .bf16 :=
  VO0_3.read (Elt F) (VO0_3.writes (Elt F) VO0_3.junk (kernelRun0_A c i arg1 harg1 arg2 harg2 arg3 harg3 arg4 harg4 hc0 x0 x1).2.1)

-- (the run's proof term is large: the definition's epilogue — `abstractNestedProofs` — walks it past the default budget)
set_option maxHeartbeats 1000000 in
noncomputable def kernelRun0_B (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) :
    Σ' (L2 : List (View.Piece (Elt F) S256x5760 .fp8e4m3)), { L3 : List (View.Piece (Elt F) S16x5760 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_xq i arg1 harg1 arg2 harg2 arg3 harg3 arg4 harg4) K } := by
  refine ⟨?_, ?_, fun E K => ?run⟩
  case run =>
    simp only [cc0_xq_eq_skeleton]; unfold cc0_xq_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover0_B_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) (y : S256x5760.Idx) :
    ∃ pc ∈ (kernelRun0_B c i arg1 harg1 arg2 harg2 arg3 harg3 arg4 harg4 hc0 x0 x1 xo3).1, y ∈ pc.1.set :=
  View.cover_of_tiledL (kernelRun0_B c i arg1 harg1 arg2 harg2 arg3 harg3 arg4 harg4 hc0 x0 x1 xo3).1 S256x5760.size (by sl_kernel_rfl) y

def out0_B_2 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) : Vec F S256x5760 .fp8e4m3 :=
  VO0_2.read (Elt F) (VO0_2.writes (Elt F) VO0_2.junk (kernelRun0_B c i arg1 harg1 arg2 harg2 arg3 harg3 arg4 harg4 hc0 x0 x1 xo3).1)

theorem cover0_B_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) (y : S16x5760.Idx) :
    ∃ pc ∈ (kernelRun0_B c i arg1 harg1 arg2 harg2 arg3 harg3 arg4 harg4 hc0 x0 x1 xo3).2.1, y ∈ pc.1.set :=
  View.cover_of_tiledL (kernelRun0_B c i arg1 harg1 arg2 harg2 arg3 harg3 arg4 harg4 hc0 x0 x1 xo3).2.1 S16x5760.size (by sl_kernel_rfl) y

def out0_B_3 (c : Dev nD) (i : grid0.Coords) (arg1 : Memref sig .tc .smem S6 .f32) (harg1 : arg1.IsWhole) (arg2 : Memref sig .tc .vmem S256x5760 .bf16) (harg2 : arg2.IsWhole) (arg3 : Memref sig .tc .vmem S256x5760 .fp8e4m3) (harg3 : arg3.IsWhole) (arg4 : Memref sig .tc .vmem S16x5760 .bf16) (harg4 : arg4.IsWhole) (hc0 : ¬cond0_0 i)
    (x0 : Vec F S6 .f32) (x1 : Vec F S256x5760 .bf16) (xo3 : Vec F S16x5760 .bf16) : Vec F S16x5760 .bf16 :=
  VO0_3.read (Elt F) (VO0_3.writes (Elt F) VO0_3.junk (kernelRun0_B c i arg1 harg1 arg2 harg2 arg3 harg3 arg4 harg4 hc0 x0 x1 xo3).2.1)

def outsAt0 (c : Dev nD) : (n : ℕ) → n < cfg0.N → Vec F S256x5760 .fp8e4m3 × Vec F S16x5760 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 16 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _)
    unfold owns; iexists _; isplitr
    swap; · iexact H3
    ipureintro; exact View.read_writes_of_cover _ _ _ _ _ (cover0_B_3 c _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen.H

end
-- ==== Proof.KI.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 58 = 0 :=
  (fun t => by
    have ht : t.val < 58 := Nat.lt_of_lt_of_eq t.isLt N_1
    have e0 : (grid1.coords t 0).val = t.val / 1 % 58 := Pipeline.Grid.coords_val t 0 (by decide) rfl
    simp only [cond1_0, e0]
    word_cmp
   : ∀ t : Fin grid1.N, cond1_0 (grid1.coords t) ↔ t.val % 58 = 0)

abbrev VO1_4 : View sig .tc .vmem S4096x256 .bf16 := (Memref.whole cc1_stg4_0 : Memref sig .tc .vmem S4096x256 .bf16).view
abbrev VO1_5 : View sig .tc .vmem S256x5760 .f32 := (Memref.whole cc1_stg5_0 : Memref sig .tc .vmem S256x5760 .f32).view
abbrev VO1_6 : View sig .tc .vmem S256x5760 .fp8e4m3 := (Memref.whole cc1_stg6_0 : Memref sig .tc .vmem S256x5760 .fp8e4m3).view
abbrev VO1_7 : View sig .tc .vmem S4096x256 .fp8e5m2 := (Memref.whole cc1_stg7_0 : Memref sig .tc .vmem S4096x256 .fp8e5m2).view
abbrev VO1_8 : View sig .tc .vmem S16x5760 .bf16 := (Memref.whole cc1_stg8_0 : Memref sig .tc .vmem S16x5760 .bf16).view
abbrev VO1_9 : View sig .tc .vmem S16x256 .bf16 := (Memref.whole cc1_stg9_0 : Memref sig .tc .vmem S16x256 .bf16).view
abbrev ms1_0 (t : Fin cfg1.N) : Memref sig .tc .smem S6 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x5760 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x5760 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x5760 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x5760 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4096x256 .fp8e5m2 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S16x5760 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S16x256 .bf16 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
noncomputable def kernelRun1_A (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) :
    Σ' (L4 : List (View.Piece (Elt F) S4096x256 .bf16)), Σ' (L5 : List (View.Piece (Elt F) S256x5760 .f32)), Σ' (L6 : List (View.Piece (Elt F) S256x5760 .fp8e4m3)), Σ' (L7 : List (View.Piece (Elt F) S4096x256 .fp8e5m2)), Σ' (L8 : List (View.Piece (Elt F) S16x5760 .bf16)), { L9 : List (View.Piece (Elt F) S16x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_ydw i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_ydw_eq_skeleton]; unfold cc1_ydw_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

theorem cover1_A_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S4096x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).1 S4096x256.size (by sl_kernel_rfl) y

def out1_A_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S4096x256 .bf16 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 hc0 x0 x1 x2 x3).1)

theorem cover1_A_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S256x5760.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.1 S256x5760.size (by sl_kernel_rfl) y

def out1_A_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S256x5760 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 hc0 x0 x1 x2 x3).2.1)

theorem cover1_A_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S256x5760.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.1 S256x5760.size (by sl_kernel_rfl) y

def out1_A_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S256x5760 .fp8e4m3 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 hc0 x0 x1 x2 x3).2.2.1)

theorem cover1_A_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S4096x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.2.1 S4096x256.size (by sl_kernel_rfl) y

def out1_A_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S4096x256 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 x0 x1 x2 x3).2.2.2.1)

theorem cover1_A_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S16x5760.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.2.2.1 S16x5760.size (by sl_kernel_rfl) y

def out1_A_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S16x5760 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 x0 x1 x2 x3).2.2.2.2.1)

theorem cover1_A_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) (y : S16x256.Idx) :
    ∃ pc ∈ (kernelRun1_A c i arg1 harg1 arg2 harg2 arg3 harg3 arg4 harg4 arg5 harg5 arg6 harg6 arg7 harg7 arg8 harg8 arg9 harg9 arg10 harg10 hc0 x0 x1 x2 x3).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 x0 x1 x2 x3).2.2.2.2.2.1 S16x256.size (by sl_kernel_rfl) y

def out1_A_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : cond1_0 i)
    (x0 : Vec F S6 .f32) (x1 : Vec F S4096x5760 .fp8e4m3) (x2 : Vec F S256x5760 .bf16) (x3 : Vec F S4096x256 .bf16) : Vec F S16x256 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 x0 x1 x2 x3).2.2.2.2.2.1)

-- (the run's proof term is large: the definition's epilogue — `abstractNestedProofs` — walks it past the default budget)
set_option maxHeartbeats 1000000 in
noncomputable def kernelRun1_B (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) :
    Σ' (L4 : List (View.Piece (Elt F) S4096x256 .bf16)), Σ' (L5 : List (View.Piece (Elt F) S256x5760 .f32)), Σ' (L6 : List (View.Piece (Elt F) S256x5760 .fp8e4m3)), Σ' (L7 : List (View.Piece (Elt F) S4096x256 .fp8e5m2)), Σ' (L8 : List (View.Piece (Elt F) S16x5760 .bf16)), { L9 : List (View.Piece (Elt F) S16x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_ydw i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_ydw_eq_skeleton]; unfold cc1_ydw_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

theorem cover1_B_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S4096x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).1 S4096x256.size (by sl_kernel_rfl) y

def out1_B_4 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S4096x256 .bf16 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 hc0 x0 x1 x2 x3 xo8 xo9).1)

theorem cover1_B_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S256x5760.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.1 S256x5760.size (by sl_kernel_rfl) y

def out1_B_5 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S256x5760 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 hc0 x0 x1 x2 x3 xo8 xo9).2.1)

theorem cover1_B_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S256x5760.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.1 S256x5760.size (by sl_kernel_rfl) y

def out1_B_6 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S256x5760 .fp8e4m3 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 hc0 x0 x1 x2 x3 xo8 xo9).2.2.1)

theorem cover1_B_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S4096x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.2.1 S4096x256.size (by sl_kernel_rfl) y

def out1_B_7 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S4096x256 .fp8e5m2 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 x0 x1 x2 x3 xo8 xo9).2.2.2.1)

theorem cover1_B_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S16x5760.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.2.2.1 S16x5760.size (by sl_kernel_rfl) y

def out1_B_8 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S16x5760 .bf16 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 x0 x1 x2 x3 xo8 xo9).2.2.2.2.1)

theorem cover1_B_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) (y : S16x256.Idx) :
    ∃ pc ∈ (kernelRun1_B c i arg1 harg1 arg2 harg2 arg3 harg3 arg4 harg4 arg5 harg5 arg6 harg6 arg7 harg7 arg8 harg8 arg9 harg9 arg10 harg10 hc0 x0 x1 x2 x3 xo8 xo9).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 x0 x1 x2 x3 xo8 xo9).2.2.2.2.2.1 S16x256.size (by sl_kernel_rfl) y

def out1_B_9 (c : Dev nD) (i : grid1.Coords) (arg1 : Memref sig .tc .smem S6 .f32) (harg1 : arg1.IsWhole) (arg2 : Memref sig .tc .vmem S4096x5760 .fp8e4m3) (harg2 : arg2.IsWhole) (arg3 : Memref sig .tc .vmem S256x5760 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x5760 .f32) (harg6 : arg6.IsWhole) (arg7 : Memref sig .tc .vmem S256x5760 .fp8e4m3) (harg7 : arg7.IsWhole) (arg8 : Memref sig .tc .vmem S4096x256 .fp8e5m2) (harg8 : arg8.IsWhole) (arg9 : Memref sig .tc .vmem S16x5760 .bf16) (harg9 : arg9.IsWhole) (arg10 : Memref sig .tc .vmem S16x256 .bf16) (harg10 : arg10.IsWhole) (hc0 : ¬cond1_0 i)
    (x0 : Vec F S6 .f32) (x1 : Vec F S4096x5760 .fp8e4m3) (x2 : Vec F S256x5760 .bf16) (x3 : Vec F S4096x256 .bf16) (xo8 : Vec F S16x5760 .bf16) (xo9 : Vec F S16x256 .bf16) : Vec F S16x256 .bf16 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 x0 x1 x2 x3 xo8 xo9).2.2.2.2.2.1)

def outsAt1 (c : Dev nD) : (n : ℕ) → n < cfg1.N → Vec F S4096x256 .bf16 × Vec F S256x5760 .f32 × Vec F S256x5760 .fp8e4m3 × Vec F S4096x256 .fp8e5m2 × Vec F S16x5760 .bf16 × Vec F S16x256 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 58 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2)

theorem outsAt1_A (c : Dev nD) (t : Fin cfg1.N) (h0 : t.val % 58 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 58 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]
theorem after1_9 (c : Dev nD) (t : Fin cfg1.N) : (dat1 V c).after 9 t = (outsAt1 V c t.val t.isLt).2.2.2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_8_B (c : Dev nD) (t : Fin cfg1.N) (h0 : ¬t.val % 58 = 0) (d) :
    (dat1 V c).before 8 t d = (outsAt1 V c (t.val - 1) (Nat.lt_of_le_of_lt (Nat.sub_le _ _) t.isLt)).2.2.2.2.1 := by
  have hN : t.val < 58 := lt_of_lt_of_eq t.isLt (show cfg1.N = 58 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_B (c : Dev nD) (t : Fin cfg1.N) (h0 : ¬t.val % 58 = 0) (d) :
    (dat1 V c).before 9 t d = (outsAt1 V c (t.val - 1) (Nat.lt_of_le_of_lt (Nat.sub_le _ _) t.isLt)).2.2.2.2.2 := by
  have hN : t.val < 58 := lt_of_lt_of_eq t.isLt (show cfg1.N = 58 from N_1)
  rw [Dat.before_out_kept _ 9 rfl t (by omega) (Bool.eq_false_iff.mpr fun h => by have := (flush1_9 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 58 := lt_of_lt_of_eq t.isLt (show cfg1.N = 58 from N_1)
  by_cases h0 : t.val % 58 = 0
  · rw [outsAt1_A V c t h0]
    unfold out1_A_4 out1_A_5 out1_A_6 out1_A_7 out1_A_8 out1_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _)
    unfold owns; iexists _; isplitr
    swap; · iexact H9
    ipureintro; exact View.read_writes_of_cover _ _ _ _ _ (cover1_A_9 c _ _ _ _ _ _ _ _ _ _ _ _ _ _ _ _ _ _ _ _ _ _ _ _ _ _)
  · rw [outsAt1_B V c t h0]
    simp only [before1_8_B V c t h0, before1_9_B V c t h0]
    unfold out1_B_4 out1_B_5 out1_B_6 out1_B_7 out1_B_8 out1_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) _ _).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _)
    unfold owns; iexists _; isplitr
    swap; · iexact H9
    ipureintro; exact View.read_writes_of_cover _ _ _ _ _ (cover1_B_9 c _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen.H

end
-- ==== Proof.KI.Region2.lean ====
/- The third pallas_call, `cc2_dx`, at the entry contents `V`. Its w-code window and its output window hang over
   the array's edge at the last column block, and nothing states what a fetch leaves past the edge, so what the
   body leaves is stated as a RELATION: the payload of the two code blocks, the second one filled out past the
   edge by some contents. -/
module

public import proofs.«01_k».proof.Proof.KI.Region0

@[expose] public section

set_option maxRecDepth 16384

noncomputable section

namespace Cert.KernelIdeal.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev VO2_3 : View sig .tc .vmem S1024x256 .bf16 := (Memref.whole cc2_stg3_0 : Memref sig .tc .vmem S1024x256 .bf16).view
abbrev ms2_0 (t : Fin cfg2.N) : Memref sig .tc .smem S6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x14848 .fp8e5m2 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S14848x256 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)

set_option maxHeartbeats 1000000 in
/-- The body run symbolically: it leaves its inputs and writes the pieces found here. -/
noncomputable def kernelRun2 (c : Dev nD) (i : grid2.Coords) (arg1 : Memref sig .tc .smem S6 .f32) (harg1 : arg1.IsWhole) (arg2 : Memref sig .tc .vmem S1024x14848 .fp8e5m2) (harg2 : arg2.IsWhole) (arg3 : Memref sig .tc .vmem S14848x256 .fp8e4m3) (harg3 : arg3.IsWhole) (arg4 : Memref sig .tc .vmem S1024x256 .bf16) (harg4 : arg4.IsWhole)
    (x0 : Vec F S6 .f32) (x1 : Vec F S1024x14848 .fp8e5m2) (x2 : Vec F S14848x256 .fp8e4m3) :
    { L3 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2_dx i arg1 harg1 arg2 harg2 arg3 harg3 arg4 harg4) K } := by
  refine ⟨?_, fun E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

theorem cover2_3 (c : Dev nD) (i : grid2.Coords) (arg1 : Memref sig .tc .smem S6 .f32) (harg1 : arg1.IsWhole) (arg2 : Memref sig .tc .vmem S1024x14848 .fp8e5m2) (harg2 : arg2.IsWhole) (arg3 : Memref sig .tc .vmem S14848x256 .fp8e4m3) (harg3 : arg3.IsWhole) (arg4 : Memref sig .tc .vmem S1024x256 .bf16) (harg4 : arg4.IsWhole)
    (x0 : Vec F S6 .f32) (x1 : Vec F S1024x14848 .fp8e5m2) (x2 : Vec F S14848x256 .fp8e4m3) (y : S1024x256.Idx) :
    ∃ pc ∈ (kernelRun2 c i arg1 harg1 arg2 harg2 arg3 harg3 arg4 harg4 x0 x1 x2).1, y ∈ pc.1.set :=
  View.cover_of_tiledL (kernelRun2 c i arg1 harg1 arg2 harg2 arg3 harg3 arg4 harg4 x0 x1 x2).1 S1024x256.size (by sl_kernel_rfl) y

/-- What the body leaves in the output's staging buffer. -/
def out2_3 (c : Dev nD) (i : grid2.Coords) (arg1 : Memref sig .tc .smem S6 .f32) (harg1 : arg1.IsWhole) (arg2 : Memref sig .tc .vmem S1024x14848 .fp8e5m2) (harg2 : arg2.IsWhole) (arg3 : Memref sig .tc .vmem S14848x256 .fp8e4m3) (harg3 : arg3.IsWhole) (arg4 : Memref sig .tc .vmem S1024x256 .bf16) (harg4 : arg4.IsWhole)
    (x0 : Vec F S6 .f32) (x1 : Vec F S1024x14848 .fp8e5m2) (x2 : Vec F S14848x256 .fp8e4m3) : Vec F S1024x256 .bf16 :=
  VO2_3.read (Elt F) (VO2_3.writes (Elt F) VO2_3.junk (kernelRun2 c i arg1 harg1 arg2 harg2 arg3 harg3 arg4 harg4 x0 x1 x2).1)

/-- The same at point `t`'s staging buffers, the w-code block filled out past the edge with `d`. -/
def outAt2 (c : Dev nD) (t : Fin cfg2.N) (d : S14848x256.Idx → Elt F .fp8e4m3) : Vec F S1024x256 .bf16 :=
  out2_3 c (grid2.coords t) (ms2_0 t) (hs2_0 t) (ms2_1 t) (hs2_1 t) (ms2_2 t) (hs2_2 t) (ms2_3 t) (hs2_3 t) (iblk2 V c 0 t) (iblk2 V c 1 t)
    (win2_2.fill (grid2.coords t) d (iblk2 V c 2 t))

/-- Exact data for the windows it can be exact about (0 and 1); the other two are overridden below. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => fun _ => Classical.arbitrary _
    | ⟨3, _⟩ => fun _ => Classical.arbitrary _
  Φ _ := Pipeline.ΦA spec2 c
  q _ := fullShare
  owed _ := 0

/-- What the body leaves in the two windows over the edge: the w codes as found, the output some `outAt2`. -/
def ovr2 (c : Dev nD) : (w : Fin cfg2.W) → Option (Fin cfg2.N → (Y X : (cfg2.win w).block.Idx → Elt F (cfg2.win w).elt) → Prop)
  | ⟨0, _⟩ => none
  | ⟨1, _⟩ => none
  | ⟨2, _⟩ => some fun _ Y X => X = Y
  | ⟨3, _⟩ => some fun t _ X => ∃ d, X = outAt2 V c t d

def rdat2 (c : Dev nD) : RDat τ (Elt F) Unit ℕ (UR sig nD τ) ℕ cfg2 c := (dat2 V c).toR.override (ovr2 V c)

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem finds2_0 (c : Dev nD) (t : Fin cfg2.N) (X) (h : (rdat2 V c).Finds 0 t X) : X = iblk2 V c 0 t := by
  obtain ⟨d, hd⟩ := ((dat2 V c).toR_finds 0 t X) (((dat2 V c).toR.override_finds rfl t X).mp h)
  rw [hd, before2_0]
theorem finds2_1 (c : Dev nD) (t : Fin cfg2.N) (X) (h : (rdat2 V c).Finds 1 t X) : X = iblk2 V c 1 t := by
  obtain ⟨d, hd⟩ := ((dat2 V c).toR_finds 1 t X) (((dat2 V c).toR.override_finds rfl t X).mp h)
  rw [hd, before2_1]
theorem finds2_2 (c : Dev nD) (t : Fin cfg2.N) (X) (h : (rdat2 V c).Finds 2 t X) :
    ∃ d, X = win2_2.fill (grid2.coords t) d (iblk2 V c 2 t) := by
  obtain ⟨d, hd⟩ := ((rdat2 V c).finds_of_fetch (fetch2_2 t) X).mp h
  exact ⟨d, hd⟩

/-- What the output's buffer may be left at. -/
theorem leaves2_3 (c : Dev nD) (t : Fin cfg2.N) (X) (h : (rdat2 V c).Leaves 3 t X) : ∃ d, X = outAt2 V c t d := by
  obtain ⟨Y, -, h⟩ := h
  exact h

theorem after2_in (c : Dev nD) (t : Fin cfg2.N) (Y) : (rdat2 V c).after 0 t Y (iblk2 V c 0 t) ∧ ((∀ Y, (rdat2 V c).after 1 t Y (iblk2 V c 1 t))) := by
  constructor
  · show (dat2 V c).Leaves 0 t _
    exact (after2_0 V c t)
  · intro Y
    show (dat2 V c).Leaves 1 t _
    exact (after2_1 V c t)

theorem defs₀_row2 (t : Fin cfg2.N) :
    defs₀ (F := F) .tc cfg2.body (cfg2.bodyArgs t (cfg2.slots t)) = bodyAt2 t := by
  unfold defs₀; rw [Defs.onTc_tc]

set_option maxHeartbeats 800000 in
theorem body_obligation2 (c : Dev nD) : (rdat2 (F := F) V c).BodyObligation (defs₀ (F := F)) Variants.none () Set.univ := fun t Y hY => by
  rw [bigSep_W2, bigSep_W2, defs₀_row2]
  have h0 := finds2_0 V c t _ (hY 0)
  have h1 := finds2_1 V c t _ (hY 1)
  obtain ⟨d, h2⟩ := finds2_2 V c t _ (hY 2)
  rw [show (rdat2 V c).Φ t.succ = (rdat2 V c).Φ t.castSucc from rfl,
    show (rdat2 V c).owesAt () t.succ = (rdat2 V c).owesAt () t.castSucc from rfl, h0, h1, h2]
  unfold bodyAt2
  iintro ⟨HΦ, Ho, H0, H1, H2, H3⟩
  iapply ((kernelRun2 c (grid2.coords t) _ (hs2_0 t) _ (hs2_1 t) _ (hs2_2 t) _ (hs2_3 t) (iblk2 V c 0 t) (iblk2 V c 1 t) (win2_2.fill (grid2.coords t) d (iblk2 V c 2 t))).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]
  · iexists _; isplitr; · ipureintro; exact (after2_in V c t _).1
    iexact H0
  isplitl [H1]
  · iexists _; isplitr; · ipureintro; exact (after2_in V c t (iblk2 V c 0 t)).2 _
    iexact H1
  isplitl [H2]
  · iexists _; isplitr; swap; · iexact H2
    ipureintro; exact rfl
  iexists _; isplitr
  · ipureintro; exact ⟨d, rfl⟩
  unfold owns; iexists _; isplitr
  swap; · iexact H3
  ipureintro; unfold outAt2 out2_3; exact View.read_writes_of_cover _ _ _ _ _ (cover2_3 c _ _ _ _ _ _ _ _ _ _ _ _)

end Cert.KernelIdeal.Gen.H

end
-- ==== Proof.KI.Whole.lean ====
/- The whole program's run at any float values: the host prefix, the three pallas_calls, the host tail. What the
   buffers hold at the end is a valuation `W41` that depends on one thing nothing names exactly, the contents `γ`
   of the dx array, of which `RDat.ArrAt` is known. -/
module

public import proofs.«01_k».proof.Proof.Gen.KernelIdeal.Regions
public import proofs.«01_k».proof.Proof.KI.Region0
public import proofs.«01_k».proof.Proof.KI.Region1
public import proofs.«01_k».proof.Proof.KI.Region2
public import Idealize.ShloMosaic.Lib.Pipeline.RegionsOwned

@[expose] public section

set_option maxRecDepth 16384

noncomputable section

namespace Cert.KernelIdeal.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries after the host prefix -/

/-- Core `c`'s buffers when the first pallas_call is entered. -/
abbrev E37 : (c : Dev nD) → (b : Ref sig .tc) → Buf (Elt F) ((c : Thread nD τ).loc b) := fun c b => V37 m c b

/-- At region 0's exit. -/
def W38 (c : Dev nD) : Valuation τ sig (Elt F) :=
  Pipeline.withArrays spec0 c (V37 m c) fun w => (dat0 (E37 m) c).arrAt w cfg0.N
theorem W38_arr (c : Dev nD) (w : Fin cfg0.W) :
    W38 m c (Proc.devRef .tc (Pipeline.arrRef spec0 w)) = (dat0 (E37 m) c).arrAt w cfg0.N := by
  unfold W38; exact Pipeline.withArrays_arr spec0 launch0.win.arr_inj c _ _ w
theorem W38_of_ne (c : Dev nD) (b : Ref sig .tc) (hb : ∀ w, Pipeline.arrRef spec0 w ≠ b) :
    W38 m c (Proc.devRef .tc b) = V37 m c (Proc.devRef .tc b) := by
  unfold W38; exact Pipeline.withArrays_of_ne spec0 c _ _ b hb
theorem W38_of (c : Dev nD) (r : Ref sig .tc) (h : ∀ w : Fin cfg0.W, Pipeline.arrRef spec0 w = r → (cfg0.win w).isOut = false) :
    W38 m c (Proc.devRef .tc r) = V37 m c (Proc.devRef .tc r) := by
  by_cases hw : ∃ w : Fin cfg0.W, Pipeline.arrRef spec0 w = r
  · obtain ⟨w, rfl⟩ := hw
    exact (W38_arr m c w).trans (((dat0 (E37 m) c).arrAt_in w (h w rfl) _).trans (A_eq0 (E37 m) c w))
  · exact W38_of_ne m c r fun w e => hw ⟨w, e⟩
abbrev E38 : (c : Dev nD) → (b : Ref sig .tc) → Buf (Elt F) ((c : Thread nD τ).loc b) := fun c b => W38 m c b

/-- At region 1's exit. -/
def W39 (c : Dev nD) : Valuation τ sig (Elt F) :=
  Pipeline.withArrays spec1 c (W38 m c) fun w => (dat1 (E38 m) c).arrAt w cfg1.N
theorem W39_arr (c : Dev nD) (w : Fin cfg1.W) :
    W39 m c (Proc.devRef .tc (Pipeline.arrRef spec1 w)) = (dat1 (E38 m) c).arrAt w cfg1.N := by
  unfold W39; exact Pipeline.withArrays_arr spec1 launch1.win.arr_inj c _ _ w
theorem W39_of_ne (c : Dev nD) (b : Ref sig .tc) (hb : ∀ w, Pipeline.arrRef spec1 w ≠ b) :
    W39 m c (Proc.devRef .tc b) = W38 m c (Proc.devRef .tc b) := by
  unfold W39; exact Pipeline.withArrays_of_ne spec1 c _ _ b hb
theorem W39_of (c : Dev nD) (r : Ref sig .tc) (h : ∀ w : Fin cfg1.W, Pipeline.arrRef spec1 w = r → (cfg1.win w).isOut = false) :
    W39 m c (Proc.devRef .tc r) = W38 m c (Proc.devRef .tc r) := by
  by_cases hw : ∃ w : Fin cfg1.W, Pipeline.arrRef spec1 w = r
  · obtain ⟨w, rfl⟩ := hw
    exact (W39_arr m c w).trans (((dat1 (E38 m) c).arrAt_in w (h w rfl) _).trans (A_eq1 (E38 m) c w))
  · exact W39_of_ne m c r fun w e => hw ⟨w, e⟩
abbrev E39 : (c : Dev nD) → (b : Ref sig .tc) → Buf (Elt F) ((c : Thread nD τ).loc b) := fun c b => W39 m c b

/-- What the dx array may hold at region 2's exit. -/
abbrev Γ (c : Dev nD) : Type :=
  { f : Buf (Elt F) ((cfg2.win 3).arr.view.loc (c.tc : Thread nD τ)) // (rdat2 (E39 m) c).ArrAt 3 cfg2.N f }

/-- Region 2's arrays at its exit: the inputs as entered, the output at `γ`. -/
def arrs2 (c : Dev nD) (γ : Γ m c) : (w : Fin cfg2.W) → Buf (Elt F) ((cfg2.win w).arr.view.loc (c.tc : Thread nD τ))
  | ⟨0, _⟩ => (dat2 (E39 m) c).A 0
  | ⟨1, _⟩ => (dat2 (E39 m) c).A 1
  | ⟨2, _⟩ => (dat2 (E39 m) c).A 2
  | ⟨3, _⟩ => γ.1

/-- At region 2's exit. -/
def W40 (c : Dev nD) (γ : Γ m c) : Valuation τ sig (Elt F) :=
  Pipeline.withArrays spec2 c (W39 m c) (arrs2 m c γ)
theorem W40_arr (c : Dev nD) (γ : Γ m c) (w : Fin cfg2.W) :
    W40 m c γ (Proc.devRef .tc (Pipeline.arrRef spec2 w)) = arrs2 m c γ w := by
  unfold W40; exact Pipeline.withArrays_arr spec2 launch2.win.arr_inj c _ _ w
theorem W40_of_ne (c : Dev nD) (γ : Γ m c) (b : Ref sig .tc) (hb : ∀ w, Pipeline.arrRef spec2 w ≠ b) :
    W40 m c γ (Proc.devRef .tc b) = W39 m c (Proc.devRef .tc b) := by
  unfold W40; exact Pipeline.withArrays_of_ne spec2 c _ _ b hb
theorem arrs2_in (c : Dev nD) (γ : Γ m c) : (w : Fin cfg2.W) → (cfg2.win w).isOut = false → arrs2 m c γ w = E39 m c (Pipeline.arrRef spec2 w)
  | ⟨0, _⟩, _ => A_eq2 (E39 m) c 0
  | ⟨1, _⟩, _ => A_eq2 (E39 m) c 1
  | ⟨2, _⟩, _ => A_eq2 (E39 m) c 2
  | ⟨3, _⟩, h => absurd h Bool.noConfusion
theorem W40_of (c : Dev nD) (γ : Γ m c) (r : Ref sig .tc) (h : ∀ w : Fin cfg2.W, Pipeline.arrRef spec2 w = r → (cfg2.win w).isOut = false) :
    W40 m c γ (Proc.devRef .tc r) = W39 m c (Proc.devRef .tc r) := by
  by_cases hw : ∃ w : Fin cfg2.W, Pipeline.arrRef spec2 w = r
  · obtain ⟨w, rfl⟩ := hw
    exact (W40_arr m c γ w).trans (arrs2_in m c γ w (h w rfl))
  · exact W40_of_ne m c γ r fun w e => hw ⟨w, e⟩

/-- At the end. -/
abbrev W41 (c : Dev nD) (γ : Γ m c) : Valuation τ sig (Elt F) := StableHlo.after hostOps3 (W40 m c γ)
theorem W41_of (c : Dev nD) (γ : Γ m c) (r : Ref sig .tc) (h : r ∉ hostOps3_W) :
    W41 m c γ (Proc.devRef .tc r) = W40 m c γ (Proc.devRef .tc r) :=
  StableHlo.after_of_writes_sub hostOps3 _ hostOps3_writes h

/-! ## The arguments end as launched -/

abbrev argRefs : List (Ref sig .tc) := [main_arg0, main_arg1, main_arg2, main_arg3]
/-- Contents at the boundaries under which every region leaves what it found: only for reading the prefix. -/
def outs0 : Outs (F := F) := fun _ r c => V37 m c r
theorem V37_args (c : Dev nD) : ∀ a ∈ argRefs, V37 m c (Proc.devRef .tc a) = m ((c : Thread nD τ).loc a) := by
  have key : ∀ a : Ref sig .tc, a ∉ hostOps3_W → a ∉ ([main_v113] : List (Ref sig .tc)) →
      a ∉ ([main_v112_0, main_v112_1, main_v112_2, main_v112_3, main_v112_4, main_v112_5] : List (Ref sig .tc)) →
      a ∉ ([main_v111_0, main_v111_1] : List (Ref sig .tc)) → V37 m c (Proc.devRef .tc a) = V41 m (outs0 m) c (Proc.devRef .tc a) := fun a h3 h2 h1 h0 =>
    ((V41_of m (outs0 m) c a h3).trans <| (V40_of m (outs0 m) c a h2).trans <| (V39_of m (outs0 m) c a h1).trans (V38_of m (outs0 m) c a h0)).symm
  intro a ha
  rcases List.mem_cons.mp ha with rfl | ha
  · exact (key main_arg0 (by decide) (by decide) (by decide) (by decide)).trans (V41_main_arg0 m (outs0 m) c)
  rcases List.mem_cons.mp ha with rfl | ha
  · exact (key main_arg1 (by decide) (by decide) (by decide) (by decide)).trans (V41_main_arg1 m (outs0 m) c)
  rcases List.mem_cons.mp ha with rfl | ha
  · exact (key main_arg2 (by decide) (by decide) (by decide) (by decide)).trans (V41_main_arg2 m (outs0 m) c)
  rcases List.mem_cons.mp ha with rfl | ha
  · exact (key main_arg3 (by decide) (by decide) (by decide) (by decide)).trans (V41_main_arg3 m (outs0 m) c)
  · exact absurd ha (List.not_mem_nil)
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem argsTail : ∀ a ∈ argRefs, a ∉ hostOps3_W := ListAll.forall_mem_of_all_decide (by decide +kernel)
theorem W41_args (c : Dev nD) (γ : Γ m c) : ∀ a ∈ argRefs, W41 m c γ (Proc.devRef .tc a) = m ((c : Thread nD τ).loc a) :=
  fun a ha => (W41_of m c γ a (argsTail a ha)).trans <| (W40_of m c γ a (argsIn2 a ha)).trans <|
    (W39_of m c a (argsIn1 a ha)).trans <| (W38_of m c a (argsIn0 a ha)).trans (V37_args m c a ha)

/-! ## The proof data family and the thread state -/

/-- Exact data per pipeline, region 2's only for its entry contents. -/
def pdats : (p : Fin 3) → (c : Dev nD) → Dat τ (Elt F) Unit ℕ (UR sig nD τ) ℕ (Pipeline.pin (pcfgs (F := F)) adm p) c
  | ⟨0, _⟩ => fun c => dat0 (E37 m) c
  | ⟨1, _⟩ => fun c => dat1 (E38 m) c
  | ⟨2, _⟩ => fun c => dat2 (E39 m) c
/-- The relational data the run uses. -/
def rdats : (p : Fin 3) → (c : Dev nD) → RDat τ (Elt F) Unit ℕ (UR sig nD τ) ℕ (Pipeline.pin (pcfgs (F := F)) adm p) c
  | ⟨0, _⟩ => fun c => (dat0 (E37 m) c).toR
  | ⟨1, _⟩ => fun c => (dat1 (E38 m) c).toR
  | ⟨2, _⟩ => fun c => rdat2 (E39 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev RE : Fin 4 → Dev nD → sProp 𝕄 := fun _ => R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues. -/
abbrev Tₙ (c : Dev nD) : sProp 𝕄 := iprop((∃ γ, StableHlo.held (c : Thread nD τ) (Pipeline.ucRefs τ sig) (W41 m c γ)) ∗ ∃ r, prngReg c r)

/-! ## The regions as segments -/

section Records

theorem hF0 (c : Dev nD) (w : Fin cfg0.W) : (dat0 (E37 m) c).arrAt w cfg0.N = E38 m c (Pipeline.arrRef spec0 w) := (W38_arr m c w).symm
theorem hrest0 (c : Dev nD) : ∀ b, b ∉ Finset.univ.image (Pipeline.arrRef spec0) → E38 m c b = E37 m c b :=
  fun b hb => W38_of_ne m c b fun w e => hb (Finset.mem_image.mpr ⟨w, Finset.mem_univ _, e⟩)
theorem hF1 (c : Dev nD) (w : Fin cfg1.W) : (dat1 (E38 m) c).arrAt w cfg1.N = E39 m c (Pipeline.arrRef spec1 w) := (W39_arr m c w).symm
theorem hrest1 (c : Dev nD) : ∀ b, b ∉ Finset.univ.image (Pipeline.arrRef spec1) → E39 m c b = E38 m c b :=
  fun b hb => W39_of_ne m c b fun w e => hb (Finset.mem_image.mpr ⟨w, Finset.mem_univ _, e⟩)
abbrev E40 (γ : (c : Dev nD) → Γ m c) : (c : Dev nD) → (b : Ref sig .tc) → Buf (Elt F) ((c : Thread nD τ).loc b) := fun c b => W40 m c (γ c) b
theorem hrest2 (c : Dev nD) (γ : Γ m c) : ∀ b, b ∉ Finset.univ.image (Pipeline.arrRef spec2) → W40 m c γ (Proc.devRef .tc b) = E39 m c b :=
  fun b hb => W40_of_ne m c γ b fun w e => hb (Finset.mem_image.mpr ⟨w, Finset.mem_univ _, e⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E37 m) c).loose
  hwaits := Pipeline.hwaits_of_owed_zero _ _ _ _ L lv 0 fun _ _ => rfl
  pre c := iprop(StableHlo.held (c : Thread nD τ) (Pipeline.ucRefs τ sig) (V37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec0 c (E37 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E37 m c) (A_eq0 (E37 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E37 m c) (E38 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E38 m) c).loose
  hwaits := Pipeline.hwaits_of_owed_zero _ _ _ _ L lv 1 fun _ _ => rfl
  pre c := iprop(StableHlo.held (c : Thread nD τ) (Pipeline.ucRefs τ sig) (W38 m c) ∗ R c)
  post c := iprop(StableHlo.held (c : Thread nD τ) (Pipeline.ucRefs τ sig) (W39 m c) ∗ R c)
  X c := iprop(∃ r, prngReg c r)
  Y c := iprop(∃ r, prngReg c r)
  Z c := Pipeline.unscopedRest (Ix := Unit) (Name := ℕ) (U := UR sig nD τ) (Lvl := ℕ) spec1 c (E38 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E38 m c) (A_eq1 (E38 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E38 m c) (E39 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays at its exit, the output's contents named. -/
theorem exit2 (c : Dev nD) : ((rdat2 (E39 m) c).arraysAt cfg2.N : sProp 𝕄) ⊢ iprop(∃ γ : Γ m c, (dat2 (E39 m) c).arrays (arrs2 m c γ)) := by
  unfold RDat.arraysAt
  refine (BI.bigSep_exists_pi Finset.univ _).trans ?_
  iintro ⟨%A, H⟩
  ihave H' := (BI.bigSep_pure_sep Finset.univ (fun w => (rdat2 (E39 m) c).ArrAt w cfg2.N (A w)) _) $$ H
  icases H' with ⟨%hA, H⟩
  have hin : ∀ w, (cfg2.win w).isOut = false → A w = (dat2 (E39 m) c).A w := fun w hw => by
    have h := hA w (Finset.mem_univ w)
    rw [(rdat2 (E39 m) c).ArrAt_in w hw] at h
    exact h
  have e : A = arrs2 m c ⟨A 3, hA 3 (Finset.mem_univ _)⟩ := funext fun w =>
    match w with
    | ⟨0, _⟩ => hin 0 rfl
    | ⟨1, _⟩ => hin 1 rfl
    | ⟨2, _⟩ => hin 2 rfl
    | ⟨3, _⟩ => rfl
  iexists ⟨A 3, hA 3 (Finset.mem_univ _)⟩
  rw [← e]
  iapply (show bigSep Finset.univ (fun i : Fin cfg2.W => iprop((cfg2.win i).arr.view.loc (c.tc : Thread nD τ) ↦[(cfg2.win i).arr.view.set]{(rdat2 (E39 m) c).share i} A i))
    ⊢ ((dat2 (E39 m) c).arrays A : sProp 𝕄) from .rfl)
  iexact H

set_option backward.isDefEq.respectTransparency.types false in
def rreg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (E39 m) c
  hwaits := Pipeline.RDat.hwaits_of_owed_zero _ _ _ _ L lv 2 fun _ _ => rfl
  pre c := iprop(StableHlo.held (c : Thread nD τ) (Pipeline.ucRefs τ sig) (W39 m c) ∗ R c)
  post c := iprop((∃ γ, StableHlo.held (c : Thread nD τ) (Pipeline.ucRefs τ sig) (W40 m c γ)) ∗ R c)
  X c := iprop(∃ r, prngReg c r)
  Y c := iprop(∃ r, prngReg c r)
  Z c := Pipeline.unscopedRest (Ix := Unit) (Name := ℕ) (U := UR sig nD τ) (Lvl := ℕ) spec2 c (E39 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (E39 m c) (A_eq2 (E39 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha := (show (rdats m 2 c).arraysAt (Pipeline.pin (pcfgs (F := F)) adm 2).N ⊢ iprop(∃ γ : Γ m c, (pdats m 2 c).arrays (arrs2 m c γ)) from exit2 m c) $$ Ha
    icases Ha with ⟨%γ, Ha⟩
    imodintro
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E39 m c) (fun b => W40 m c γ b) (arrs2 m c γ) (fun w => (W40_arr m c γ w).symm) (hrest2 m c γ)
    rw [Pipeline.unscopedBufs_held] at hjoin
    isplitl [Ha Hrest]
    · iexists γ
      iapply hjoin; isplitl [Ha] <;> iassumption
    isplitl [HY]; · iexact HY
    unfold Pipeline.RDat.owesAt Pipeline.owesWithin
    icases HO with ⟨%W, -, HO⟩; iexists W; iexact HO

/-- Regions 0 and 1 read relationally. -/
def rreg0 : Pipeline.RDat.RegionSeg (pcfgs (F := F)) adm (rdats m) () defs₀ 𝒱₀ L lv 0 :=
  let Q := (reg0 m).toR
  { win := Q.win, block_pos := Q.block_pos, stage_whole := Q.stage_whole, K := Q.K, fK := Q.fK, osem := Q.osem, ho := Q.ho
    hbody := Q.hbody, hwaits := Pipeline.RDat.hwaits_of_owed_zero _ _ _ _ L lv 0 fun _ _ => rfl
    pre := Q.pre, post := Q.post, X := Q.X, Y := Q.Y, Z := Q.Z, hentry := Q.hentry, hin := Q.hin, hout := Q.hout, hexit := Q.hexit }

def rreg1 : Pipeline.RDat.RegionSeg (pcfgs (F := F)) adm (rdats m) () defs₀ 𝒱₀ L lv 1 :=
  let Q := (reg1 m).toR
  { win := Q.win, block_pos := Q.block_pos, stage_whole := Q.stage_whole, K := Q.K, fK := Q.fK, osem := Q.osem, ho := Q.ho
    hbody := Q.hbody, hwaits := Pipeline.RDat.hwaits_of_owed_zero _ _ _ _ L lv 1 fun _ _ => rfl
    pre := Q.pre, post := Q.post, X := Q.X, Y := Q.Y, Z := Q.Z, hentry := Q.hentry, hin := Q.hin, hout := Q.hout, hexit := Q.hexit }
end Records

end Cert.KernelIdeal.Gen.H

end
-- ==== Proof.KI.Run.lean ====
/- The whole program's run and its frame: @main as segments, launched, and the last thread state read. -/
module

public import proofs.«01_k».proof.Proof.KI.Whole

@[expose] public section

set_option maxRecDepth 16384

noncomputable section

namespace Cert.KernelIdeal.Gen.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host tail, from the contents after region 2. -/
def segTail : Pipeline.HostSeg (Ix := Unit) (Name := ℕ) (U := UR sig nD τ) (Lvl := ℕ) (pcfgs (F := F)) defs₀ 𝒱₀ L lv :=
  Pipeline.HostSeg.ofOpsEx _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W40 m) R

/-- @main's segments in order. -/
abbrev rsegs : List (Pipeline.RDat.Seg (pcfgs (F := F)) adm (rdats m) () defs₀ 𝒱₀ L lv) :=
  [ .host (seg0 m 𝒱₀ L lv RE),
    .host (seg1 m 𝒱₀ L lv RE),
    .host (seg2 m 𝒱₀ L lv RE),
    .host (seg3 m 𝒱₀ L lv RE),
    .host (seg4 m 𝒱₀ L lv RE),
    .host (seg5 m 𝒱₀ L lv RE),
    .host (seg6 m 𝒱₀ L lv RE),
    .host (seg7 m 𝒱₀ L lv RE),
    .host (seg8 m 𝒱₀ L lv RE),
    .host (seg9 m 𝒱₀ L lv RE),
    .host (seg10 m 𝒱₀ L lv RE),
    .host (seg11 m 𝒱₀ L lv RE),
    .host (seg12 m 𝒱₀ L lv RE),
    .host (seg13 m 𝒱₀ L lv RE),
    .host (seg14 m 𝒱₀ L lv RE),
    .host (seg15 m 𝒱₀ L lv RE),
    .host (seg16 m 𝒱₀ L lv RE),
    .host (seg17 m 𝒱₀ L lv RE),
    .host (seg18 m 𝒱₀ L lv RE),
    .host (seg19 m 𝒱₀ L lv RE),
    .host (seg20 m 𝒱₀ L lv RE),
    .host (seg21 m 𝒱₀ L lv RE),
    .host (seg22 m 𝒱₀ L lv RE),
    .host (seg23 m 𝒱₀ L lv RE),
    .host (seg24 m 𝒱₀ L lv RE),
    .host (seg25 m 𝒱₀ L lv RE),
    .host (seg26 m 𝒱₀ L lv RE),
    .host (seg27 m 𝒱₀ L lv RE),
    .host (seg28 m 𝒱₀ L lv RE),
    .host (seg29 m 𝒱₀ L lv RE),
    .host (seg30 m 𝒱₀ L lv RE),
    .host (seg31 m 𝒱₀ L lv RE),
    .host (seg32 m 𝒱₀ L lv RE),
    .host (seg33 m 𝒱₀ L lv RE),
    .host (seg34 m 𝒱₀ L lv RE),
    .host (seg35 m 𝒱₀ L lv RE),
    .host (seg36 m 𝒱₀ L lv RE),
    .region (rreg0 m), .region (rreg1 m), .region (rreg2 m), .host (segTail m) ]

theorem rmain_run (c : Dev nD) : main (F := F) c = Pipeline.RDat.Seg.run (rsegs m) := (main_chain c).trans (by chain_rfl)

theorem no_unscoped : ∀ sm : SemLoc sig, sm.isScoped .tc = true := by decide

set_option backward.isDefEq.respectTransparency.types false in
/-- Every execution terminates, nothing faulting, with every counter at zero and every unscoped buffer at `W41` of
    some contents of the dx array. -/
theorem run : θ_run defs (onTc (τ := τ) (main (F := F))) ⟨m, fun _ => 0, ρ⟩ (fun r =>
      (∀ c : Dev nD, ∃ γ : Γ m c, ∀ b ∈ Pipeline.ucRefs τ sig, r.2.mem (((c : Thread nD τ)).1, b) = W41 m c γ b)
      ∧ r.2.sem = fun _ => 0) :=
  Pipeline.RDat.θ_run_regions_kit_sems (pcfgs (F := F)) adm (rdats m) () cellOf_inj emb₁ defs₀ 𝒱₀ L lv m ρ main (rsegs m)
    (fun c Q => by rw [rmain_run m c])
    (by simp only [rsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.RDat.Seg.post, segTail, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ γ : Γ m c, ∀ b ∈ Pipeline.ucRefs τ sig, s.mem (((c : Thread nD τ)).1, b) = W41 m c γ b)
    (hfin := fun c s' => by
      iintro ⟨⟨⟨%γ, Hh⟩, -⟩, HSI⟩
      unfold StableHlo.held
      imodintro
      iapply ((pointsTo_read_all (Pipeline.ucRefs τ sig) (fun b => (((c : Thread nD τ)).1, b)) (W41 m c γ) s').trans
        (sep_mono (BI.pure_mono fun h => ⟨γ, h⟩) .rfl))
      isplitl [Hh] <;> iassumption)
    (hQ := fun s h hz => ⟨fun c => h c, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    obtain ⟨γ, hγ⟩ := h.1 c
    have key : ∀ a ∈ argRefs, ¬ (Proc.devRef .tc a : DevRef τ sig).isScoped →
        r.2.mem ((c.tc : Thread nD τ).loc a) = m ((c.tc : Thread nD τ).loc a) := fun a ha hs =>
      (hγ _ (mem_uc a hs)).trans (W41_args m c γ a ha)
    exact ⟨key main_arg0 (by decide) (by decide), key main_arg1 (by decide) (by decide),
      key main_arg2 (by decide) (by decide), key main_arg3 (by decide) (by decide)⟩, h.2⟩) (run m ρ)

end Cert.KernelIdeal.Gen.H

end
-- ==== Proof.V.Spec.lean ====
module

public import Idealize.ShloMosaic.Lib.Pipeline.ValueKit
public import Idealize.ShloMosaic.Lib.Pointwise
public import Idealize.ShloMosaic.Lib.StableHlo.ReadAt
public import Idealize.ShloMosaic.PureOps.Ideal.Laws

@[expose] public section

noncomputable section

namespace Cert.Spec

open Idealize.ShloMosaic

/-- the magnitude of an ideal value -/
def mag (x : EReal) : EReal := max x (-x)

/-- a value clipped to the range between two constants -/
def clip (lo hi : BitVec 32) (x : EReal) : EReal := min (Ideal.ofBits .f32 hi) (max (Ideal.ofBits .f32 lo) x)

/-- a code of the format whose largest magnitude is 448 -/
def q4 (x s : EReal) : EReal := clip 0xC3E00000#32 0x43E00000#32 (x * s)

/-- a code of the format whose largest magnitude is 57344 -/
def q5 (x s : EReal) : EReal := clip 0xC7600000#32 0x47600000#32 (x * s)

abbrev SX : Shape := ⟨2, ![4096, 5760]⟩
abbrev SW : Shape := ⟨2, ![14848, 5760]⟩
abbrev SY : Shape := ⟨2, ![4096, 14848]⟩

/-- the forward product of the codes, scaled -/
def yArr (xc : SX.Idx → EReal) (wc : SW.Idx → EReal) (s : EReal) : SY.Idx → EReal :=
  fun i => (∑ k : Fin 5760, xc (ix2 (show Fin 4096 from i 0) k) * wc (ix2 (show Fin 14848 from i 1) k)) * s

/-- the weight gradient of the codes, scaled -/
def dwArr (dc : SY.Idx → EReal) (xc : SX.Idx → EReal) (s : EReal) : SW.Idx → EReal :=
  fun i => (∑ r : Fin 4096, dc (ix2 r (show Fin 14848 from i 0)) * xc (ix2 r (show Fin 5760 from i 1))) * s

/-- the input gradient of the codes, scaled -/
def dxArr (dc : SY.Idx → EReal) (wc : SW.Idx → EReal) (s : EReal) : SX.Idx → EReal :=
  fun i => (∑ o : Fin 14848, dc (ix2 (show Fin 4096 from i 0) o) * wc (ix2 o (show Fin 5760 from i 1))) * s

end Cert.Spec

end
-- ==== Proof.V.KHost.lean ====
/-
  What the host operations before the kernel's first region leave: the scales and the reshaped arguments.
-/
module

public import proofs.«01_k».proof.Proof.V.Spec
public import proofs.«01_k».proof.Proof.KI.Whole
public import Idealize.ShloMosaic.Lib.StableHlo.RunRead
public import Idealize.ShloMosaic.Lib.StableHlo.ReadAt

@[expose] public section

set_option maxRecDepth 16384

noncomputable section

namespace Cert.KernelIdeal.Gen.H

open Idealize.ShloMosaic Idealize.ShloMosaic.TcCoe
open Cert.Spec
open Cert.KernelIdeal Cert.KernelIdeal.Gen

/-- The largest entry of one row of the history. -/
def kA0 (a3 : Vec Ideal S3x16 .f32) : Vec Ideal S_ .f32 :=
  Host.reduce (FloatOps.maximumf (F := Ideal) (φ := .f32)) (shapeCast S16 (extractStridedSlice S1x16 ![0, 0] a3 slices_S3x16_S1x16_0_0) shapeCasts_S1x16_S16) (constant (F := Ideal) S_ .f32 0xFF800000#32) reducesTo_S16_S_d0 h_S_
def kA1 (a3 : Vec Ideal S3x16 .f32) : Vec Ideal S_ .f32 :=
  Host.reduce (FloatOps.maximumf (F := Ideal) (φ := .f32)) (shapeCast S16 (extractStridedSlice S1x16 ![1, 0] a3 slices_S3x16_S1x16_1_0) shapeCasts_S1x16_S16) (constant (F := Ideal) S_ .f32 0xFF800000#32) reducesTo_S16_S_d0 h_S_
def kA2 (a3 : Vec Ideal S3x16 .f32) : Vec Ideal S_ .f32 :=
  Host.reduce (FloatOps.maximumf (F := Ideal) (φ := .f32)) (shapeCast S16 (extractStridedSlice S1x16 ![2, 0] a3 slices_S3x16_S1x16_2_0) shapeCasts_S1x16_S16) (constant (F := Ideal) S_ .f32 0xFF800000#32) reducesTo_S16_S_d0 h_S_

/-- How many of the float32 powers of two are at most the magnitude of a number. -/
def kCount (v : Vec Ideal S_ .f32) : Vec Ideal S_ .i32 :=
  Host.reduce IntOp.addi (extui 32 (cmpf .oge (broadcastInDim S255 ![] bcast_S_S255 (Host.absf (F := Ideal) (φ := .f32) v)) (bitcastToFloat (F := Ideal) .f32 (Host.shli (addi (iotaInDim S255 32 0) (broadcastInDim S255 ![] bcast_S_S255 (constantI S_ 32 1#32))) (broadcastInDim S255 ![] bcast_S_S255 (constantI S_ 32 23#32))))) natLt_1_32)
    (constantI S_ 32 0#32) reducesTo_S255_S_d0 h_S_

/-- The exponent the kernel takes for a row with largest entry `A`. -/
def kE (A : Vec Ideal S_ .f32) (cst : BitVec 32) : Vec Ideal S_ .i32 :=
  select (cmpf (F := Ideal) (φ := .f32) .oeq A (constant (F := Ideal) S_ .f32 0x00000000#32)) (constantI S_ 32 0#32)
    (select (ori (cmpi .eq (kCount (mulf (F := Ideal) (φ := .f32) A (constant (F := Ideal) S_ .f32 cst))) (constantI S_ 32 0#32)) (cmpi .eq (kCount (mulf (F := Ideal) (φ := .f32) A (constant (F := Ideal) S_ .f32 cst))) (constantI S_ 32 255#32)))
      (constantI S_ 32 0#32) (subi (kCount (mulf (F := Ideal) (φ := .f32) A (constant (F := Ideal) S_ .f32 cst))) (constantI S_ 32 126#32)))

/-- The power of two of an exponent, as the kernel builds it. -/
def kP (E : Vec Ideal S_ .i32) : Vec Ideal S_ .f32 :=
  bitcastToFloat (F := Ideal) .f32 (Host.shli (minsi (constantI S_ 32 255#32) (maxsi (constantI S_ 32 0#32) (addi (minsi (constantI S_ 32 512#32) (maxsi (constantI S_ 32 4294966784#32) E)) (constantI S_ 32 127#32)))) (constantI S_ 32 23#32))

variable (m : (ℓ : Loc nD τ sig) → Buf (Elt Ideal) ℓ)

/-- The contents once the exponents are known. -/
@[irreducible] def V12' (c : Dev nD) : Valuation τ sig (Elt Ideal) := V12 m c

/-- The contents before the last stretch of host operations. -/
def V36' (c : Dev nD) : Valuation τ sig (Elt Ideal) := StableHlo.after hostOps0_35 (StableHlo.after hostOps0_34 (StableHlo.after hostOps0_33 (StableHlo.after hostOps0_32 (StableHlo.after hostOps0_31 (StableHlo.after hostOps0_30 (StableHlo.after hostOps0_29 (StableHlo.after hostOps0_28 (StableHlo.after hostOps0_27 (StableHlo.after hostOps0_26 (StableHlo.after hostOps0_25 (StableHlo.after hostOps0_24 (StableHlo.after hostOps0_23 (StableHlo.after hostOps0_22 (StableHlo.after hostOps0_21 (StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (V12' m c))))))))))))))))))))))))

theorem V37_eq (c : Dev nD) : V37 m c = StableHlo.after hostOps0_36 (V36' m c) := by unfold V36' V12'; rfl

theorem e0 (c : Dev nD) : V12' m c main_v23 = kE (kA0 (m ((c : Thread nD τ).loc main_arg3))) 0x3B124925#32 := by
  unfold V12'
  after_reads_simp
  rfl

theorem e1 (c : Dev nD) : V12' m c main_v45 = kE (kA1 (m ((c : Thread nD τ).loc main_arg3))) 0x3B124925#32 := by
  unfold V12'
  after_reads_simp
  rfl

theorem e2 (c : Dev nD) : V12' m c main_v67 = kE (kA2 (m ((c : Thread nD τ).loc main_arg3))) 0x37924925#32 := by
  unfold V12'
  after_reads_simp
  rfl

/-- Six single entries stacked. -/
def cat6 (a b c d e f : Vec Ideal S1 .f32) : Vec Ideal S6 .f32 :=
  concatenate S6 0 [⟨S1, a⟩, ⟨S1, b⟩, ⟨S1, c⟩, ⟨S1, d⟩, ⟨S1, e⟩, ⟨S1, f⟩] concatenates_S1_S1_S1_S1_S1_S1_S6_d0

/-- A single number as a vector of one entry. -/
def one1 (a : Vec Ideal S_ .f32) : Vec Ideal S1 .f32 := broadcastInDim S1 ![] bcast_S_S1 a

theorem cat6_0 (a b c d e f : Vec Ideal S1 .f32) : cat6 a b c d e f (ix1 0) = a (ix1 0) := by
  unfold cat6
  pointwise

theorem cat6_5 (a b c d e f : Vec Ideal S1 .f32) : cat6 a b c d e f (ix1 5) = f (ix1 0) := by
  unfold cat6
  pointwise

theorem cat6_1 (a b c d e f : Vec Ideal S1 .f32) : cat6 a b c d e f (ix1 1) = b (ix1 0) := by
  unfold cat6
  pointwise

theorem cat6_2 (a b c d e f : Vec Ideal S1 .f32) : cat6 a b c d e f (ix1 2) = c (ix1 0) := by
  unfold cat6
  pointwise

theorem cat6_3 (a b c d e f : Vec Ideal S1 .f32) : cat6 a b c d e f (ix1 3) = d (ix1 0) := by
  unfold cat6
  pointwise

theorem cat6_4 (a b c d e f : Vec Ideal S1 .f32) : cat6 a b c d e f (ix1 4) = e (ix1 0) := by
  unfold cat6
  pointwise

theorem stack_read (W : Valuation τ sig (Elt Ideal)) : StableHlo.after hostOps0_36 W main_v110 = cat6 (one1 (W main_v88)) (one1 (W main_v94)) (one1 (bitcastToFloat (F := Ideal) .f32 (Host.shli (W main_v98 : Vec Ideal S_ .i32) (constantI S_ 32 23#32))))
    (one1 (mulf (F := Ideal) (φ := .f32) (W main_v72) (W main_v77))) (one1 (mulf (F := Ideal) (φ := .f32) (W main_v82) (W main_v77))) (one1 (mulf (F := Ideal) (φ := .f32) (W main_v82) (W main_v72))) := by
  after_reads_simp
  refine Eq.trans (b := cat6 (StableHlo.upto hostOps0_36 W 12 main_v104) (StableHlo.upto hostOps0_36 W 12 main_v105) (StableHlo.upto hostOps0_36 W 12 main_v106) (StableHlo.upto hostOps0_36 W 12 main_v107) (StableHlo.upto hostOps0_36 W 12 main_v108) (StableHlo.upto hostOps0_36 W 12 main_v109)) rfl ?_
  unfold one1
  congr 1 <;> after_reads_simp

theorem l72 (c : Dev nD) : V36' m c main_v72 = kP (V12' m c main_v23) := by
  unfold V36'
  after_reads_simp
  unfold kP
  simp -implicitDefEqProofs only [StableHlo.TRef.ofBuf_toBuf, StableHlo.TRef.toBuf, StableHlo.TRef.ofBuf, cast_cast, cast_eq, id_eq]

theorem l77 (c : Dev nD) : V36' m c main_v77 = kP (V12' m c main_v45) := by
  unfold V36'
  after_reads_simp
  unfold kP
  simp -implicitDefEqProofs only [StableHlo.TRef.ofBuf_toBuf, StableHlo.TRef.toBuf, StableHlo.TRef.ofBuf, cast_cast, cast_eq, id_eq]

theorem l82 (c : Dev nD) : V36' m c main_v82 = kP (V12' m c main_v67) := by
  unfold V36'
  after_reads_simp
  unfold kP
  simp -implicitDefEqProofs only [StableHlo.TRef.ofBuf_toBuf, StableHlo.TRef.toBuf, StableHlo.TRef.ofBuf, cast_cast, cast_eq, id_eq]

theorem l88 (c : Dev nD) : V36' m c main_v88 = kP (negi (V12' m c main_v23 : Vec Ideal S_ .i32)) := by
  unfold V36'
  after_reads_simp
  unfold kP
  simp -implicitDefEqProofs only [StableHlo.TRef.ofBuf_toBuf, StableHlo.TRef.toBuf, StableHlo.TRef.ofBuf, cast_cast, cast_eq, id_eq]

theorem l94 (c : Dev nD) : V36' m c main_v94 = kP (negi (V12' m c main_v45 : Vec Ideal S_ .i32)) := by
  unfold V36'
  after_reads_simp
  unfold kP
  simp -implicitDefEqProofs only [StableHlo.TRef.ofBuf_toBuf, StableHlo.TRef.toBuf, StableHlo.TRef.ofBuf, cast_cast, cast_eq, id_eq]

theorem l100 (c : Dev nD) : bitcastToFloat (F := Ideal) .f32 (Host.shli (V36' m c main_v98 : Vec Ideal S_ .i32) (constantI S_ 32 23#32)) = kP (negi (V12' m c main_v67 : Vec Ideal S_ .i32)) := by
  unfold V36'
  after_reads_simp
  unfold kP
  simp -implicitDefEqProofs only [StableHlo.TRef.ofBuf_toBuf, StableHlo.TRef.toBuf, StableHlo.TRef.ofBuf, cast_cast, cast_eq, id_eq]

theorem k72 (c : Dev nD) : V37 m c main_v72 = kP (V12' m c main_v23) := by
  rw [V37_eq]
  refine Eq.trans ?_ (l72 m c)
  after_reads_simp

theorem k77 (c : Dev nD) : V37 m c main_v77 = kP (V12' m c main_v45) := by
  rw [V37_eq]
  refine Eq.trans ?_ (l77 m c)
  after_reads_simp

theorem k82 (c : Dev nD) : V37 m c main_v82 = kP (V12' m c main_v67) := by
  rw [V37_eq]
  refine Eq.trans ?_ (l82 m c)
  after_reads_simp

theorem k110 (c : Dev nD) : V37 m c main_v110 = cat6 (one1 (kP (negi (V12' m c main_v23 : Vec Ideal S_ .i32)))) (one1 (kP (negi (V12' m c main_v45 : Vec Ideal S_ .i32)))) (one1 (kP (negi (V12' m c main_v67 : Vec Ideal S_ .i32))))
    (one1 (mulf (F := Ideal) (φ := .f32) (kP (V12' m c main_v23)) (kP (V12' m c main_v45)))) (one1 (mulf (F := Ideal) (φ := .f32) (kP (V12' m c main_v67)) (kP (V12' m c main_v45)))) (one1 (mulf (F := Ideal) (φ := .f32) (kP (V12' m c main_v67)) (kP (V12' m c main_v23)))) := by
  rw [V37_eq, stack_read, l88, l94, l100, l72, l77, l82]

theorem k0 (c : Dev nD) : V37 m c main_v0 = shapeCast S4096x5760 (m ((c : Thread nD τ).loc main_arg0)) shapeCasts_S4x1024x5760_S4096x5760 := by
  rw [V37_eq]
  unfold V36'
  after_reads_simp
  unfold V12'
  after_reads_simp
  rfl

theorem k1 (c : Dev nD) : V37 m c main_v1 = shapeCast S4096x14848 (m ((c : Thread nD τ).loc main_arg2)) shapeCasts_S4x1024x14848_S4096x14848 := by
  rw [V37_eq]
  unfold V36'
  after_reads_simp
  unfold V12'
  after_reads_simp
  rfl

end Cert.KernelIdeal.Gen.H
-- ==== Proof.V.Reg0.lean ====
module

public import proofs.«01_k».proof.Proof.KI.Region0
public import proofs.«01_k».proof.Proof.V.Spec

@[expose] public section

set_option maxRecDepth 16384

noncomputable section

namespace Cert.KernelIdeal.Gen.H

open Idealize.ShloMosaic Idealize.ShloMosaic.TcCoe
open Cert.Spec
open Idealize.ShloMosaic.Pipeline (Dat Cfg Window)

variable (V : (c : Dev nD) → (b : Ref sig .tc) → Buf (Elt Ideal) ((c : Thread nD τ).loc b))

theorem run_le {N : ℕ} (f : (n : ℕ) → n < N → EReal) (P : (n : ℕ) → n < N → Prop) (b : EReal)
    (h0 : ∀ h, f 0 h ≤ b ↔ 0 ≤ b ∧ P 0 h)
    (hs : ∀ n (h : n + 1 < N), f (n + 1) h ≤ b ↔ f n (Nat.lt_of_succ_lt h) ≤ b ∧ P (n + 1) h) :
    ∀ n (h : n < N), f n h ≤ b ↔ 0 ≤ b ∧ ∀ s (hsn : s ≤ n), P s (lt_of_le_of_lt hsn h)
  | 0, h => by
    rw [h0]
    exact and_congr_right fun _ => ⟨fun p s hs => by obtain rfl : s = 0 := by omega
                                                     exact p, fun p => p 0 le_rfl⟩
  | n + 1, h => by
    rw [hs, run_le f P b h0 hs n]
    constructor
    · rintro ⟨⟨hb, hp⟩, hq⟩
      refine ⟨hb, fun s hsn => ?_⟩
      rcases Nat.lt_or_ge n s with h1 | h1
      · obtain rfl : s = n + 1 := by omega
        exact hq
      · exact hp s h1
    · rintro ⟨hb, hp⟩
      exact ⟨⟨hb, fun s hsn => hp s (by omega)⟩, hp _ le_rfl⟩

theorem negInf_bf16 : Ideal.ofBits .bf16 0xFF80#16 = ⊥ := by
  simp [Ideal.ofBits, Ideal.ieee]

theorem zero_bf16 : Ideal.ofBits .bf16 0x0000#16 = 0 := by
  simp [Ideal.ofBits, Ideal.ieee]

theorem idx0 : ∀ t : Fin cfg0.N, win0_0.index t = ![0] ∧ win0_1.index t = ![t.val, 0] ∧ win0_2.index t = ![t.val, 0] ∧ win0_3.index t = ![0, 0] :=
  by decide +kernel

theorem sc0 (c : Dev nD) (t : Fin cfg0.N) : iblk0 V c 0 t (ix1 0) = V c (Pipeline.arrRef spec0 0) (ix1 0) := by
  blk_ext [iblk0, idx0 t]

/-- the codes every point of the first region stores -/
theorem outs0_codes (c : Dev nD) (t : Fin cfg0.N) :
    (outsAt0 V c t.val t.isLt).1 = k0_pay2 (iblk0 V c 1 t) (iblk0 V c 0 t (ix1 0)) := by
  by_cases h0 : t.val % 16 = 0
  · rw [outsAt0_A V c t h0]
    frame_out
    refine congrArg (k0_pay2 (iblk0 V c 1 t)) (congrArg (iblk0 V c 0 t) ?_)
    funext a; apply Fin.ext; fin_cases a; rfl
  · rw [outsAt0_B V c t h0]
    frame_out
    refine congrArg (k0_pay2 (iblk0 V c 1 t)) (congrArg (iblk0 V c 0 t) ?_)
    funext a; apply Fin.ext; fin_cases a; rfl

theorem codes0 (c : Dev nD) : (dat0 V c).arrAt 2 cfg0.N = fun i =>
    q4 (V c (Pipeline.arrRef spec0 1) i) (V c (Pipeline.arrRef spec0 0) (ix1 0)) := by
  refine (dat0 V c).arrAt_eq_of_covers 2 _ (by decide +kernel) fun t hf y => ?_
  blk_simp
  rw [after0_2, outs0_codes, sc0]
  unfold k0_pay2 k0_pay1 q4 clip
  clean_types
  pointwise
  congr 3
  blk_ext [iblk0, idx0 t]

theorem amax0_A (c : Dev nD) (t : Fin cfg0.N) (h0 : t.val % 16 = 0) :
    (outsAt0 V c t.val t.isLt).2 = k0_pay4 (iblk0 V c 1 t) (k0_pay3 (F := Ideal)) := by
  rw [outsAt0_A V c t h0]
  frame_out

theorem amax0_B (c : Dev nD) (t : Fin cfg0.N) (h0 : ¬ t.val % 16 = 0) :
    (outsAt0 V c t.val t.isLt).2 = k0_pay4 (iblk0 V c 1 t) (outsAt0 V c (t.val - 1) (Nat.lt_of_le_of_lt (Nat.sub_le _ _) t.isLt)).2 := by
  rw [outsAt0_B V c t h0]
  frame_out

theorem pay4_le (v : Vec Ideal S256x5760 .bf16) (a : Vec Ideal S16x5760 .bf16) (r : Fin 16) (k : Fin 5760) (b : EReal) :
    k0_pay4 v a (ix2 r k) ≤ b ↔ a (ix2 r k) ≤ b ∧
      ∀ x : Fin 16, mag (v (ix2 ⟨x.val * 16 + r.val, by omega⟩ k)) ≤ b := by
  unfold k0_pay4 k0_pay1
  clean_types
  pointwise
  rw [max_le_iff, Finset.fold_max_le, negInf_bf16]
  simp only [bot_le, true_and, Finset.mem_univ, forall_const]
  exact Iff.rfl

theorem amax0_le (c : Dev nD) (r : Fin 16) (k : Fin 5760) (b : EReal) (n : ℕ) (h : n < cfg0.N) :
    (outsAt0 V c n h).2 (ix2 r k) ≤ b ↔ 0 ≤ b ∧ ∀ s (hs : s ≤ n), ∀ x : Fin 16,
      mag (iblk0 V c 1 ⟨s, lt_of_le_of_lt hs h⟩ (ix2 ⟨x.val * 16 + r.val, by omega⟩ k)) ≤ b := by
  have hN : cfg0.N = 16 := N_0
  refine run_le (fun n h => (outsAt0 V c n h).2 (ix2 r k)) (fun n h => ∀ x : Fin 16,
      mag (iblk0 V c 1 ⟨n, h⟩ (ix2 ⟨x.val * 16 + r.val, by omega⟩ k)) ≤ b) b ?_ ?_ n h
  · intro h
    rw [amax0_A V c ⟨0, h⟩ rfl, pay4_le]
    refine and_congr_left fun _ => ?_
    rw [← zero_bf16]; rfl
  · intro n h
    rw [amax0_B V c ⟨n + 1, h⟩ (by dsimp only; omega), pay4_le]
    rfl

/-- the last point of the first region -/
def last0 : Fin cfg0.N := ⟨15, by rw [show cfg0.N = 16 from N_0]; decide⟩

/-- the first region's maxima array -/
def amaxArr0 (c : Dev nD) : S16x5760.Idx → EReal := (dat0 V c).arrAt 3 cfg0.N

theorem amaxArr0_le (c : Dev nD) (b : EReal) :
    (∀ j : S16x5760.Idx, amaxArr0 V c j ≤ b) ↔
      0 ≤ b ∧ ∀ i : S4096x5760.Idx, mag (V c (Pipeline.arrRef spec0 1) i) ≤ b := by
  have hN : cfg0.N = 16 := N_0
  have hA : amaxArr0 V c = (outsAt0 V c last0.val last0.isLt).2 := by
    unfold amaxArr0
    refine (dat0 V c).arrAt_eq_of_after_last 3 last0 (by decide +kernel) _ fun j => ?_
    blk_simp
    rw [after0_3]
  rw [hA]
  have key : ∀ (s : ℕ) (hs : s < cfg0.N) (x r : Fin 16) (k : Fin 5760),
      iblk0 V c 1 ⟨s, hs⟩ (ix2 ⟨x.val * 16 + r.val, by omega⟩ k) =
        V c (Pipeline.arrRef spec0 1) (ix2 ⟨s * 256 + (x.val * 16 + r.val), by omega⟩ k) := by
    intro s hs x r k
    blk_ext [iblk0, idx0 ⟨s, hs⟩]
  constructor
  · intro H
    have H' : ∀ r k, _ := fun r k => (amax0_le V c r k b last0.val last0.isLt).mp (H (ix2 r k))
    refine ⟨(H' 0 0).1, fun i => ?_⟩
    idx_vars i
    have := (H' ⟨i0.val % 16, by omega⟩ i1).2 (i0.val / 256) (by show _ ≤ 15; omega) ⟨i0.val / 16 % 16, by omega⟩
    rw [key] at this
    convert this using 4
    dsimp only
    apply Fin.ext
    dsimp only
    omega
  · rintro ⟨hb, H⟩ j
    idx_vars j
    refine (amax0_le V c j0 j1 b last0.val last0.isLt).mpr ⟨hb, fun s hs x => ?_⟩
    rw [key]
    exact H _

end Cert.KernelIdeal.Gen.H

end
-- ==== Proof.V.Reg1.lean ====
module

public import proofs.«01_k».proof.Proof.KI.Region1
public import proofs.«01_k».proof.Proof.V.Reg0

@[expose] public section

set_option maxRecDepth 16384

noncomputable section

namespace Cert.KernelIdeal.Gen.H

open Idealize.ShloMosaic Idealize.ShloMosaic.TcCoe
open Cert.Spec
open Idealize.ShloMosaic.Pipeline (Dat Cfg Window)

variable (V : (c : Dev nD) → (b : Ref sig .tc) → Buf (Elt Ideal) ((c : Thread nD τ).loc b))

theorem idx1 : ∀ t : Fin cfg1.N, win1_0.index t = ![0] ∧ win1_1.index t = ![0, 0] ∧ win1_2.index t = ![t.val, 0] ∧ win1_3.index t = ![0, t.val]
    ∧ win1_4.index t = ![0, t.val] ∧ win1_5.index t = ![t.val, 0] ∧ win1_6.index t = ![t.val, 0] ∧ win1_7.index t = ![0, t.val]
    ∧ win1_8.index t = ![0, 0] ∧ win1_9.index t = ![0, 0] :=
  by decide +kernel

/-- the scale words as the second region finds them -/
abbrev scs (c : Dev nD) : S6.Idx → EReal := V c (Pipeline.arrRef spec1 0)

theorem ld6 (X : Vec Ideal S6 .f32) (n : Fin 6) (h) (h1) : View.ld X (Rect.unit (s := S6) ![n.val] ![1] h) (Shape.Idx.first h1) = X (ix1 n) := by
  refine congrArg X ?_
  funext a; apply Fin.ext; fin_cases a; rfl

theorem sc1 (c : Dev nD) (t : Fin cfg1.N) (n : Fin 6) : iblk1 V c 0 t (ix1 n) = scs V c (ix1 n) := by
  blk_ext [iblk1, idx1 t]

theorem ld1 (c : Dev nD) (t : Fin cfg1.N) (n : Fin 6) (h) (h1) : View.ld (iblk1 V c 0 t) (Rect.unit (s := S6) ![n.val] ![1] h) (Shape.Idx.first h1) = scs V c (ix1 n) :=
  (ld6 _ n h h1).trans (sc1 V c t n)

set_option maxHeartbeats 800000 in
/-- what every point of the second region stores into the windows flushed at every point -/
theorem outs1 (c : Dev nD) (t : Fin cfg1.N) :
    (outsAt1 V c t.val t.isLt).1 = k1_pay2 (iblk1 V c 1 t) (k1_pay6 (iblk1 V c 2 t) (scs V c (ix1 1))) (scs V c (ix1 3)) ∧
    (outsAt1 V c t.val t.isLt).2.1 = k1_pay3 (k1_pay9 (iblk1 V c 3 t) (scs V c (ix1 2))) (iblk1 V c 1 t) (scs V c (ix1 5)) ∧
    (outsAt1 V c t.val t.isLt).2.2.1 = k1_pay6 (iblk1 V c 2 t) (scs V c (ix1 1)) ∧
    (outsAt1 V c t.val t.isLt).2.2.2.1 = k1_pay9 (iblk1 V c 3 t) (scs V c (ix1 2)) := by
  by_cases h0 : t.val % 58 = 0
  · rw [outsAt1_A V c t h0]
    refine ⟨?_, ?_, ?_, ?_⟩ <;> frame_out
    · exact congrArg₂ (fun a b => k1_pay2 (iblk1 V c 1 t) (k1_pay6 (iblk1 V c 2 t) a) b) (ld1 V c t 1 _ _) (ld1 V c t 3 _ _)
    · exact congrArg₂ (fun a b => k1_pay3 (k1_pay9 (iblk1 V c 3 t) a) (iblk1 V c 1 t) b) (ld1 V c t 2 _ _) (ld1 V c t 5 _ _)
    · exact congrArg (k1_pay6 (iblk1 V c 2 t)) (ld1 V c t 1 _ _)
    · exact congrArg (k1_pay9 (iblk1 V c 3 t)) (ld1 V c t 2 _ _)
  · rw [outsAt1_B V c t h0]
    refine ⟨?_, ?_, ?_, ?_⟩ <;> frame_out
    · exact congrArg₂ (fun a b => k1_pay2 (iblk1 V c 1 t) (k1_pay6 (iblk1 V c 2 t) a) b) (ld1 V c t 1 _ _) (ld1 V c t 3 _ _)
    · exact congrArg₂ (fun a b => k1_pay3 (k1_pay9 (iblk1 V c 3 t) a) (iblk1 V c 1 t) b) (ld1 V c t 2 _ _) (ld1 V c t 5 _ _)
    · exact congrArg (k1_pay6 (iblk1 V c 2 t)) (ld1 V c t 1 _ _)
    · exact congrArg (k1_pay9 (iblk1 V c 3 t)) (ld1 V c t 2 _ _)

theorem pay6_apply (v : Vec Ideal S256x5760 .bf16) (s : EReal) (y) : k1_pay6 v s y = q4 (v y) s := by
  unfold k1_pay6 q4 clip
  clean_types
  pointwise
  try rfl

theorem pay9_apply (v : Vec Ideal S4096x256 .bf16) (s : EReal) (y) : k1_pay9 v s y = q5 (v y) s := by
  unfold k1_pay9 k1_pay8 q5 clip
  clean_types
  pointwise
  try rfl

theorem pay2_apply (x : Vec Ideal S4096x5760 .fp8e4m3) (w : Vec Ideal S256x5760 .fp8e4m3) (s : EReal) (r : Fin 4096) (o : Fin 256) :
    k1_pay2 x w s (ix2 r o) = (∑ k : Fin 5760, x (ix2 r k) * w (ix2 o k)) * s := by
  unfold k1_pay2
  clean_types
  pointwise
  trace_state

theorem pay3_apply (d : Vec Ideal S4096x256 .fp8e5m2) (x : Vec Ideal S4096x5760 .fp8e4m3) (s : EReal) (o : Fin 256) (k : Fin 5760) :
    k1_pay3 d x s (ix2 o k) = (∑ r : Fin 4096, d (ix2 r o) * x (ix2 r k)) * s := by
  unfold k1_pay3
  clean_types
  pointwise
  trace_state

/-- the second region's weight codes -/
def wcArr (c : Dev nD) : SW.Idx → EReal := fun i => q4 (V c (Pipeline.arrRef spec1 2) i) (scs V c (ix1 1))
/-- the second region's gradient codes -/
def dcArr (c : Dev nD) : SY.Idx → EReal := fun i => q5 (V c (Pipeline.arrRef spec1 3) i) (scs V c (ix1 2))

theorem wc1 (c : Dev nD) : (dat1 V c).arrAt 6 cfg1.N = wcArr V c := by
  refine (dat1 V c).arrAt_eq_of_covers 6 _ (by decide +kernel) fun t hf y => ?_
  blk_simp
  rw [after1_6, (outs1 V c t).2.2.1, pay6_apply]
  unfold wcArr
  congr 1
  blk_ext [iblk1, idx1 t]

theorem dc1 (c : Dev nD) : (dat1 V c).arrAt 7 cfg1.N = dcArr V c := by
  refine (dat1 V c).arrAt_eq_of_covers 7 _ (by decide +kernel) fun t hf y => ?_
  blk_simp
  rw [after1_7, (outs1 V c t).2.2.2, pay9_apply]
  unfold dcArr
  congr 1
  blk_ext [iblk1, idx1 t]

theorem blk1_1 (c : Dev nD) (t : Fin cfg1.N) (r : Fin 4096) (k : Fin 5760) :
    iblk1 V c 1 t (ix2 r k) = V c (Pipeline.arrRef spec1 1) (ix2 r k) := by
  blk_ext [iblk1, idx1 t]

theorem lt1 (t : Fin cfg1.N) : t.val < 58 := lt_of_lt_of_eq t.isLt (show cfg1.N = 58 from N_1)

theorem blk1_2 (c : Dev nD) (t : Fin cfg1.N) (o : Fin 256) (k : Fin 5760) :
    iblk1 V c 2 t (ix2 o k) = V c (Pipeline.arrRef spec1 2) (ix2 ⟨t.val * 256 + o.val, by have := lt1 t; omega⟩ k) := by
  blk_ext [iblk1, idx1 t]

theorem blk1_3 (c : Dev nD) (t : Fin cfg1.N) (r : Fin 4096) (o : Fin 256) :
    iblk1 V c 3 t (ix2 r o) = V c (Pipeline.arrRef spec1 3) (ix2 r ⟨t.val * 256 + o.val, by have := lt1 t; omega⟩) := by
  blk_ext [iblk1, idx1 t]

theorem emb1_4 (t : Fin cfg1.N) (r : Fin 4096) (o : Fin 256) :
    (win1_4.blk t).view.emb (ix2 r o) = (ix2 r ⟨t.val * 256 + o.val, by have := lt1 t; omega⟩ : SY.Idx) := by
  blk_ext [idx1 t]

theorem emb1_5 (t : Fin cfg1.N) (o : Fin 256) (k : Fin 5760) :
    (win1_5.blk t).view.emb (ix2 o k) = (ix2 ⟨t.val * 256 + o.val, by have := lt1 t; omega⟩ k : SW.Idx) := by
  blk_ext [idx1 t]

theorem y1 (c : Dev nD) : (dat1 V c).arrAt 4 cfg1.N = yArr (V c (Pipeline.arrRef spec1 1)) (wcArr V c) (scs V c (ix1 3)) := by
  refine (dat1 V c).arrAt_eq_of_covers 4 _ (by decide +kernel) fun t hf y => ?_
  blk_simp
  rw [after1_4, (outs1 V c t).1]
  idx_vars y
  refine (pay2_apply _ _ _ _ _).trans ?_
  refine Eq.trans ?_ (congrArg (yArr _ _ _) (emb1_4 t y0 y1)).symm
  unfold yArr wcArr
  refine congrArg (· * _) (Finset.sum_congr rfl fun k _ => ?_)
  rw [pay6_apply, blk1_1, blk1_2]
  rfl

theorem dw1 (c : Dev nD) : (dat1 V c).arrAt 5 cfg1.N = dwArr (dcArr V c) (V c (Pipeline.arrRef spec1 1)) (scs V c (ix1 5)) := by
  refine (dat1 V c).arrAt_eq_of_covers 5 _ (by decide +kernel) fun t hf y => ?_
  blk_simp
  rw [after1_5, (outs1 V c t).2.1]
  idx_vars y
  refine (pay3_apply _ _ _ _ _).trans ?_
  refine Eq.trans ?_ (congrArg (dwArr _ _ _) (emb1_5 t y0 y1)).symm
  unfold dwArr dcArr
  refine congrArg (· * _) (Finset.sum_congr rfl fun k _ => ?_)
  rw [pay9_apply, blk1_1, blk1_3]
  rfl

end Cert.KernelIdeal.Gen.H

end
-- ==== Proof.V.Amax1.lean ====
module

public import proofs.«01_k».proof.Proof.V.Reg1

@[expose] public section

set_option maxRecDepth 16384

noncomputable section

namespace Cert.KernelIdeal.Gen.H

open Idealize.ShloMosaic Idealize.ShloMosaic.TcCoe
open Cert.Spec
open Idealize.ShloMosaic.Pipeline (Dat Cfg Window)

variable (V : (c : Dev nD) → (b : Ref sig .tc) → Buf (Elt Ideal) ((c : Thread nD τ).loc b))

theorem amax1_A (c : Dev nD) (t : Fin cfg1.N) (h0 : t.val % 58 = 0) :
    (outsAt1 V c t.val t.isLt).2.2.2.2.1 = k1_pay7 (iblk1 V c 2 t) (k1_pay4 (F := Ideal)) ∧
    (outsAt1 V c t.val t.isLt).2.2.2.2.2 = k1_pay1 (k1_pay8 (iblk1 V c 3 t)) (k1_pay5 (F := Ideal)) := by
  rw [outsAt1_A V c t h0]
  constructor <;> frame_out

theorem amax1_B (c : Dev nD) (t : Fin cfg1.N) (h0 : ¬ t.val % 58 = 0) :
    (outsAt1 V c t.val t.isLt).2.2.2.2.1 = k1_pay7 (iblk1 V c 2 t) (outsAt1 V c (t.val - 1) (Nat.lt_of_le_of_lt (Nat.sub_le _ _) t.isLt)).2.2.2.2.1 ∧
    (outsAt1 V c t.val t.isLt).2.2.2.2.2 = k1_pay1 (k1_pay8 (iblk1 V c 3 t)) (outsAt1 V c (t.val - 1) (Nat.lt_of_le_of_lt (Nat.sub_le _ _) t.isLt)).2.2.2.2.2 := by
  rw [outsAt1_B V c t h0]
  constructor <;> frame_out

theorem pay7_le (v : Vec Ideal S256x5760 .bf16) (a : Vec Ideal S16x5760 .bf16) (r : Fin 16) (k : Fin 5760) (b : EReal) :
    k1_pay7 v a (ix2 r k) ≤ b ↔ a (ix2 r k) ≤ b ∧
      ∀ x : Fin 16, mag (v (ix2 ⟨x.val * 16 + r.val, by omega⟩ k)) ≤ b := by
  unfold k1_pay7
  clean_types
  pointwise
  rw [max_le_iff, Finset.fold_max_le, negInf_bf16]
  simp only [bot_le, true_and, Finset.mem_univ, forall_const]
  exact Iff.rfl

theorem pay1_le (v : Vec Ideal S4096x256 .bf16) (a : Vec Ideal S16x256 .bf16) (r : Fin 16) (k : Fin 256) (b : EReal) :
    k1_pay1 (k1_pay8 v) a (ix2 r k) ≤ b ↔ a (ix2 r k) ≤ b ∧
      ∀ x : Fin 256, mag (v (ix2 ⟨x.val * 16 + r.val, by omega⟩ k)) ≤ b := by
  unfold k1_pay1 k1_pay8
  clean_types
  pointwise
  rw [max_le_iff, Finset.fold_max_le, negInf_bf16]
  simp only [bot_le, true_and, Finset.mem_univ, forall_const]
  exact Iff.rfl

theorem amax1_8_le (c : Dev nD) (r : Fin 16) (k : Fin 5760) (b : EReal) (n : ℕ) (h : n < cfg1.N) :
    (outsAt1 V c n h).2.2.2.2.1 (ix2 r k) ≤ b ↔ 0 ≤ b ∧ ∀ s (hs : s ≤ n), ∀ x : Fin 16,
      mag (iblk1 V c 2 ⟨s, lt_of_le_of_lt hs h⟩ (ix2 ⟨x.val * 16 + r.val, by omega⟩ k)) ≤ b := by
  have hN : cfg1.N = 58 := N_1
  refine run_le (fun n h => (outsAt1 V c n h).2.2.2.2.1 (ix2 r k)) (fun n h => ∀ x : Fin 16,
      mag (iblk1 V c 2 ⟨n, h⟩ (ix2 ⟨x.val * 16 + r.val, by omega⟩ k)) ≤ b) b ?_ ?_ n h
  · intro h
    rw [(amax1_A V c ⟨0, h⟩ rfl).1, pay7_le]
    refine and_congr_left fun _ => ?_
    rw [← zero_bf16]; rfl
  · intro n h
    rw [(amax1_B V c ⟨n + 1, h⟩ (by dsimp only; omega)).1, pay7_le]
    rfl

theorem amax1_9_le (c : Dev nD) (r : Fin 16) (k : Fin 256) (b : EReal) (n : ℕ) (h : n < cfg1.N) :
    (outsAt1 V c n h).2.2.2.2.2 (ix2 r k) ≤ b ↔ 0 ≤ b ∧ ∀ s (hs : s ≤ n), ∀ x : Fin 256,
      mag (iblk1 V c 3 ⟨s, lt_of_le_of_lt hs h⟩ (ix2 ⟨x.val * 16 + r.val, by omega⟩ k)) ≤ b := by
  have hN : cfg1.N = 58 := N_1
  refine run_le (fun n h => (outsAt1 V c n h).2.2.2.2.2 (ix2 r k)) (fun n h => ∀ x : Fin 256,
      mag (iblk1 V c 3 ⟨n, h⟩ (ix2 ⟨x.val * 16 + r.val, by omega⟩ k)) ≤ b) b ?_ ?_ n h
  · intro h
    rw [(amax1_A V c ⟨0, h⟩ rfl).2, pay1_le]
    refine and_congr_left fun _ => ?_
    rw [← zero_bf16]; rfl
  · intro n h
    rw [(amax1_B V c ⟨n + 1, h⟩ (by dsimp only; omega)).2, pay1_le]
    rfl

/-- the last point of the second region -/
def last1 : Fin cfg1.N := ⟨57, by rw [show cfg1.N = 58 from N_1]; decide⟩

/-- the second region's weight maxima -/
def amaxArr8 (c : Dev nD) : S16x5760.Idx → EReal := (dat1 V c).arrAt 8 cfg1.N
/-- the second region's gradient maxima -/
def amaxArr9 (c : Dev nD) : S16x256.Idx → EReal := (dat1 V c).arrAt 9 cfg1.N

theorem amaxArr8_le (c : Dev nD) (b : EReal) :
    (∀ j : S16x5760.Idx, amaxArr8 V c j ≤ b) ↔
      0 ≤ b ∧ ∀ i : S14848x5760.Idx, mag (V c (Pipeline.arrRef spec1 2) i) ≤ b := by
  have hN : cfg1.N = 58 := N_1
  have hA : amaxArr8 V c = (outsAt1 V c last1.val last1.isLt).2.2.2.2.1 := by
    unfold amaxArr8
    refine (dat1 V c).arrAt_eq_of_after_last 8 last1 (by decide +kernel) _ fun j => ?_
    blk_simp
    rw [after1_8]
  rw [hA]
  have key : ∀ (s : ℕ) (hs : s < cfg1.N) (x r : Fin 16) (k : Fin 5760),
      iblk1 V c 2 ⟨s, hs⟩ (ix2 ⟨x.val * 16 + r.val, by omega⟩ k) =
        V c (Pipeline.arrRef spec1 2) (ix2 ⟨s * 256 + (x.val * 16 + r.val), by omega⟩ k) :=
    fun s hs x r k => blk1_2 V c ⟨s, hs⟩ _ k
  constructor
  · intro H
    have H' : ∀ r k, _ := fun r k => (amax1_8_le V c r k b last1.val last1.isLt).mp (H (ix2 r k))
    refine ⟨(H' 0 0).1, fun i => ?_⟩
    idx_vars i
    have := (H' ⟨i0.val % 16, by omega⟩ i1).2 (i0.val / 256) (by show _ ≤ 57; omega) ⟨i0.val / 16 % 16, by omega⟩
    rw [key] at this
    convert this using 4
    dsimp only
    apply Fin.ext
    dsimp only
    omega
  · rintro ⟨hb, H⟩ j
    idx_vars j
    refine (amax1_8_le V c j0 j1 b last1.val last1.isLt).mpr ⟨hb, fun s hs x => ?_⟩
    rw [key]
    exact H _

theorem amaxArr9_le (c : Dev nD) (b : EReal) :
    (∀ j : S16x256.Idx, amaxArr9 V c j ≤ b) ↔
      0 ≤ b ∧ ∀ i : S4096x14848.Idx, mag (V c (Pipeline.arrRef spec1 3) i) ≤ b := by
  have hN : cfg1.N = 58 := N_1
  have hA : amaxArr9 V c = (outsAt1 V c last1.val last1.isLt).2.2.2.2.2 := by
    unfold amaxArr9
    refine (dat1 V c).arrAt_eq_of_after_last 9 last1 (by decide +kernel) _ fun j => ?_
    blk_simp
    rw [after1_9]
  rw [hA]
  have key : ∀ (s : ℕ) (hs : s < cfg1.N) (x : Fin 256) (r : Fin 16) (k : Fin 256),
      iblk1 V c 3 ⟨s, hs⟩ (ix2 ⟨x.val * 16 + r.val, by omega⟩ k) =
        V c (Pipeline.arrRef spec1 3) (ix2 ⟨x.val * 16 + r.val, by omega⟩ ⟨s * 256 + k.val, by omega⟩) :=
    fun s hs x r k => blk1_3 V c ⟨s, hs⟩ _ k
  constructor
  · intro H
    have H' : ∀ r k, _ := fun r k => (amax1_9_le V c r k b last1.val last1.isLt).mp (H (ix2 r k))
    refine ⟨(H' 0 0).1, fun i => ?_⟩
    idx_vars i
    have := (H' ⟨i0.val % 16, by omega⟩ ⟨i1.val % 256, by omega⟩).2 (i1.val / 256) (by show _ ≤ 57; omega) ⟨i0.val / 16, by omega⟩
    rw [key] at this
    convert this using 4
    · dsimp only
      apply Fin.ext
      dsimp only
      omega
    · dsimp only
      apply Fin.ext
      dsimp only
      omega
  · rintro ⟨hb, H⟩ j
    idx_vars j
    refine (amax1_9_le V c j0 j1 b last1.val last1.isLt).mpr ⟨hb, fun s hs x => ?_⟩
    rw [key]
    exact H _

end Cert.KernelIdeal.Gen.H

end
-- ==== Proof.V.Reg2.lean ====
module

public import proofs.«01_k».proof.Proof.KI.Region2
public import proofs.«01_k».proof.Proof.V.Reg1
public import Idealize.ShloMosaic.Lib.Pipeline.ArrRel

@[expose] public section

set_option maxRecDepth 16384

noncomputable section

namespace Cert.KernelIdeal.Gen.H

open Idealize.ShloMosaic Idealize.ShloMosaic.TcCoe
open Cert.Spec
open Idealize.ShloMosaic.Pipeline (Dat Cfg Window RDat)

variable (V : (c : Dev nD) → (b : Ref sig .tc) → Buf (Elt Ideal) ((c : Thread nD τ).loc b))

theorem idx2 : ∀ t : Fin cfg2.N, win2_0.index t = ![0] ∧ win2_1.index t = ![t.val / 23, 0] ∧ win2_2.index t = ![0, t.val % 23] ∧ win2_3.index t = ![t.val / 23, t.val % 23] :=
  by decide +kernel

theorem ext2 : ∀ t : Fin cfg2.N, win2_3.xsize (grid2.coords t) 1 = win2_2.xsize (grid2.coords t) 1
    ∧ win2_2.xsize (grid2.coords t) 0 = 14848 ∧ win2_2.xsize (grid2.coords t) 1 + t.val % 23 * 256 ≤ 5760 :=
  by decide +kernel

theorem lt2 (t : Fin cfg2.N) : t.val < 92 := lt_of_lt_of_eq t.isLt (show cfg2.N = 92 from N_2)

theorem sc2 (c : Dev nD) (t : Fin cfg2.N) (n : Fin 6) (h) (h1) :
    View.ld (iblk2 V c 0 t) (Rect.unit (s := S6) ![n.val] ![1] h) (Shape.Idx.first h1) = V c (Pipeline.arrRef spec2 0) (ix1 n) := by
  refine (ld6 _ n h h1).trans ?_
  blk_ext [iblk2, idx2 t]

theorem out2 (c : Dev nD) (t : Fin cfg2.N) (d) :
    outAt2 V c t d = k2_pay1 (iblk2 V c 1 t) (win2_2.fill (grid2.coords t) d (iblk2 V c 2 t)) (V c (Pipeline.arrRef spec2 0) (ix1 4)) := by
  unfold outAt2
  frame_out
  exact congrArg (k2_pay1 (iblk2 V c 1 t) (win2_2.fill (grid2.coords t) d (iblk2 V c 2 t))) (sc2 V c t 4 _ _)

theorem pay2_1_apply (dc : Vec Ideal S1024x14848 .fp8e5m2) (w : Vec Ideal S14848x256 .fp8e4m3) (s : EReal) (r : Fin 1024) (k : Fin 256) :
    k2_pay1 dc w s (ix2 r k) = (∑ o : Fin 14848, dc (ix2 r o) * w (ix2 o k)) * s := by
  unfold k2_pay1
  clean_types
  pointwise

theorem blk2_1 (c : Dev nD) (t : Fin cfg2.N) (r : Fin 1024) (o : Fin 14848) :
    iblk2 V c 1 t (ix2 r o) = V c (Pipeline.arrRef spec2 1) (ix2 ⟨t.val / 23 * 1024 + r.val, by have := lt2 t; omega⟩ o) := by
  blk_ext [iblk2, idx2 t]

theorem fill2 (c : Dev nD) (t : Fin cfg2.N) (d) (o : Fin 14848) (k : Fin 256) (hk : k.val < win2_2.xsize (grid2.coords t) 1) :
    win2_2.fill (grid2.coords t) d (iblk2 V c 2 t) (ix2 o k) =
      V c (Pipeline.arrRef spec2 2) (ix2 o ⟨t.val % 23 * 256 + k.val, by have := (ext2 t).2.2; omega⟩) := by
  have hz : ∀ a : Fin 2, (ix2 o k a).val < win2_2.xsize (grid2.coords t) a := fun a => by
    fin_cases a
    · rw [show win2_2.xsize (grid2.coords t) ((fun i => i) ⟨0, by decide⟩) = 14848 from (ext2 t).2.1]
      exact o.isLt
    · exact hk
  let z : (win2_2.xblock (grid2.coords t)).Idx := fun a => ⟨(ix2 o k a).val, hz a⟩
  show win2_2.fill _ d _ (win2_2.xinj _ z) = _
  rw [Window.fill_xinj]
  blk_ext [iblk2, idx2 t, z]

section Out
variable (t : Fin cfg2.N) (y : (win2_3.xblock (grid2.coords t)).Idx)

theorem y0_lt : (y 0).val < 1024 := lt_of_lt_of_le (y 0).isLt (win2_3.xsize_le (grid2.coords t) 0)
theorem y1_lt : (y 1).val < 256 := lt_of_lt_of_le (y 1).isLt (win2_3.xsize_le (grid2.coords t) 1)
theorem y1_ext : (y 1).val < win2_2.xsize (grid2.coords t) 1 := lt_of_lt_of_eq (y 1).isLt (ext2 t).1

theorem xinj2_3 : win2_3.xinj (grid2.coords t) y = (ix2 (⟨(y 0).val, y0_lt t y⟩ : Fin 1024) (⟨(y 1).val, y1_lt t y⟩ : Fin 256) : S1024x256.Idx) := by
  funext a; fin_cases a <;> rfl

theorem row_lt : t.val / 23 * 1024 + (y 0).val < 4096 := by have := lt2 t; have := y0_lt t y; omega
theorem col_lt : t.val % 23 * 256 + (y 1).val < 5760 := by have := (ext2 t).2.2; have := y1_ext t y; omega

theorem emb2_3 : (win2_3.blk t).view.emb y = (ix2 ⟨t.val / 23 * 1024 + (y 0).val, row_lt t y⟩
      ⟨t.val % 23 * 256 + (y 1).val, col_lt t y⟩ : SX.Idx) := by
  blk_ext [idx2 t]

theorem pay2_out (c : Dev nD) (d) :
    k2_pay1 (iblk2 V c 1 t) (win2_2.fill (grid2.coords t) d (iblk2 V c 2 t)) (V c (Pipeline.arrRef spec2 0) (ix1 4)) (win2_3.xinj (grid2.coords t) y) =
      dxArr (V c (Pipeline.arrRef spec2 1)) (V c (Pipeline.arrRef spec2 2)) (V c (Pipeline.arrRef spec2 0) (ix1 4)) ((win2_3.blk t).view.emb y) := by
  refine (congrArg _ (xinj2_3 t y)).trans ?_
  refine (pay2_1_apply _ _ _ _ _).trans ?_
  refine Eq.trans ?_ (congrArg (dxArr _ _ _) (emb2_3 t y)).symm
  unfold dxArr
  refine congrArg (· * _) (Finset.sum_congr rfl fun o _ => ?_)
  rw [blk2_1, fill2 V c t d o _ (y1_ext t y)]
  rfl

end Out

theorem dx2 (c : Dev nD) (G) (hG : (rdat2 V c).ArrAt 3 cfg2.N G) :
    G = dxArr (V c (Pipeline.arrRef spec2 1)) (V c (Pipeline.arrRef spec2 2)) (V c (Pipeline.arrRef spec2 0) (ix1 4)) := by
  obtain ⟨X, hX, hA⟩ := hG.exists_exact
  rw [hA (Function.update (fun _ _ _ => Classical.arbitrary _) 3 X) (fun u _ _ => by rw [Function.update_self])]
  refine Dat.arrAt_eq_of_covers _ 3 _ (by decide +kernel) fun t hf y => ?_
  blk_simp
  obtain ⟨d, hd⟩ := leaves2_3 V c t _ (hX t t.isLt hf)
  rw [RDat.withAfter_after, Function.update_self, hd, out2]
  exact pay2_out V t y c d

end Cert.KernelIdeal.Gen.H

end
-- ==== Proof.V.KVals.lean ====
/-
  What the kernel's buffers hold when its regions are done.
-/
module

public import proofs.«01_k».proof.Proof.V.KHost
public import proofs.«01_k».proof.Proof.V.Reg0
public import proofs.«01_k».proof.Proof.V.Reg1
public import proofs.«01_k».proof.Proof.V.Amax1
public import proofs.«01_k».proof.Proof.V.Reg2

@[expose] public section

set_option maxRecDepth 16384

noncomputable section

namespace Cert.KernelIdeal.Gen.H

open Idealize.ShloMosaic Idealize.ShloMosaic.TcCoe
open Cert.Spec
open Cert.KernelIdeal Cert.KernelIdeal.Gen

variable (m : (ℓ : Loc nD τ sig) → Buf (Elt Ideal) ℓ)

/-- The three operands as matrices. -/
def kX (c : Dev nD) : SX.Idx → EReal := shapeCast S4096x5760 (m ((c : Thread nD τ).loc main_arg0)) shapeCasts_S4x1024x5760_S4096x5760
def kD (c : Dev nD) : SY.Idx → EReal := shapeCast S4096x14848 (m ((c : Thread nD τ).loc main_arg2)) shapeCasts_S4x1024x14848_S4096x14848
def kW (c : Dev nD) : SW.Idx → EReal := m ((c : Thread nD τ).loc main_arg1)

/-- The three exponents. -/
def E0 (c : Dev nD) : Vec Ideal S_ .i32 := kE (kA0 (m ((c : Thread nD τ).loc main_arg3))) 0x3B124925#32
def E1 (c : Dev nD) : Vec Ideal S_ .i32 := kE (kA1 (m ((c : Thread nD τ).loc main_arg3))) 0x3B124925#32
def E2 (c : Dev nD) : Vec Ideal S_ .i32 := kE (kA2 (m ((c : Thread nD τ).loc main_arg3))) 0x37924925#32

/-- The three arrays of codes. -/
def cX (c : Dev nD) : SX.Idx → EReal := fun i => q4 (kX m c i) (kP (negi (E0 m c)) ix0)
def cW (c : Dev nD) : SW.Idx → EReal := fun i => q4 (kW m c i) (kP (negi (E1 m c)) ix0)
def cD (c : Dev nD) : SY.Idx → EReal := fun i => q5 (kD m c i) (kP (negi (E2 m c)) ix0)

/-- The three products' scales. -/
def sY (c : Dev nD) : EReal := kP (E0 m c) ix0 * kP (E1 m c) ix0
def sDX (c : Dev nD) : EReal := kP (E2 m c) ix0 * kP (E1 m c) ix0
def sDW (c : Dev nD) : EReal := kP (E2 m c) ix0 * kP (E0 m c) ix0

theorem one1_at (a : Vec Ideal S_ .f32) : one1 a (ix1 0) = a ix0 := by
  unfold one1
  pointwise

/-- The stack of six scales as the regions read it. -/
def six (c : Dev nD) : Vec Ideal S6 .f32 := V37 m c main_v110

theorem six_eq (c : Dev nD) : six m c = cat6 (one1 (kP (negi (E0 m c)))) (one1 (kP (negi (E1 m c)))) (one1 (kP (negi (E2 m c))))
    (one1 (mulf (F := Ideal) (φ := .f32) (kP (E0 m c)) (kP (E1 m c)))) (one1 (mulf (F := Ideal) (φ := .f32) (kP (E2 m c)) (kP (E1 m c)))) (one1 (mulf (F := Ideal) (φ := .f32) (kP (E2 m c)) (kP (E0 m c)))) := by
  unfold six E0 E1 E2
  rw [k110, e0, e1, e2]

theorem six_0 (c : Dev nD) : six m c (ix1 0) = kP (negi (E0 m c)) ix0 := by rw [six_eq, cat6_0, one1_at]
theorem six_1 (c : Dev nD) : six m c (ix1 1) = kP (negi (E1 m c)) ix0 := by rw [six_eq, cat6_1, one1_at]
theorem six_2 (c : Dev nD) : six m c (ix1 2) = kP (negi (E2 m c)) ix0 := by rw [six_eq, cat6_2, one1_at]
theorem six_3 (c : Dev nD) : six m c (ix1 3) = sY m c := by rw [six_eq, cat6_3, one1_at]; rfl
theorem six_4 (c : Dev nD) : six m c (ix1 4) = sDX m c := by rw [six_eq, cat6_4, one1_at]; rfl
theorem six_5 (c : Dev nD) : six m c (ix1 5) = sDW m c := by rw [six_eq, cat6_5, one1_at]; rfl

/-- after the first region -/
theorem w38_codes (c : Dev nD) : W38 m c main_v111_0 = cX m c := by
  refine (W38_arr m c 2).trans ((codes0 (E37 m) c).trans ?_)
  funext i
  exact congrArg₂ q4 (congrFun (k0 m c) i) (six_0 m c)

theorem w38_amax (c : Dev nD) : W38 m c main_v111_1 = amaxArr0 (E37 m) c := W38_arr m c 3

theorem w38_sc (c : Dev nD) : W38 m c main_v110 = six m c := W38_of m c main_v110 (by decide +kernel)
theorem w38_v1 (c : Dev nD) : W38 m c main_v1 = kD m c := (W38_of m c main_v1 (by decide +kernel)).trans (k1 m c)
theorem w38_arg1 (c : Dev nD) : W38 m c main_arg1 = kW m c := (W38_of m c main_arg1 (by decide +kernel)).trans (V37_args m c _ (by decide))

theorem wc38 (c : Dev nD) : wcArr (E38 m) c = cW m c := by
  funext i
  exact congrArg₂ q4 (congrFun (w38_arg1 m c) i) ((congrFun (w38_sc m c) _).trans (six_1 m c))
theorem dc38 (c : Dev nD) : dcArr (E38 m) c = cD m c := by
  funext i
  exact congrArg₂ q5 (congrFun (w38_v1 m c) i) ((congrFun (w38_sc m c) _).trans (six_2 m c))

/-- after the second region -/
theorem w39_y (c : Dev nD) : W39 m c main_v112_0 = yArr (cX m c) (cW m c) (sY m c) := by
  refine (W39_arr m c 4).trans ((y1 (E38 m) c).trans ?_)
  rw [wc38]
  exact congrArg₂ (fun a s => yArr a (cW m c) s) (w38_codes m c) ((congrFun (w38_sc m c) _).trans (six_3 m c))
theorem w39_dw (c : Dev nD) : W39 m c main_v112_1 = dwArr (cD m c) (cX m c) (sDW m c) := by
  refine (W39_arr m c 5).trans ((dw1 (E38 m) c).trans ?_)
  rw [dc38]
  exact congrArg₂ (fun a s => dwArr (cD m c) a s) (w38_codes m c) ((congrFun (w38_sc m c) _).trans (six_5 m c))
theorem w39_wc (c : Dev nD) : W39 m c main_v112_2 = cW m c := (W39_arr m c 6).trans ((wc1 (E38 m) c).trans (wc38 m c))
theorem w39_dc (c : Dev nD) : W39 m c main_v112_3 = cD m c := (W39_arr m c 7).trans ((dc1 (E38 m) c).trans (dc38 m c))
theorem w39_amax8 (c : Dev nD) : W39 m c main_v112_4 = amaxArr8 (E38 m) c := W39_arr m c 8
theorem w39_amax9 (c : Dev nD) : W39 m c main_v112_5 = amaxArr9 (E38 m) c := W39_arr m c 9
theorem w39_sc (c : Dev nD) : W39 m c main_v110 = six m c := (W39_of m c main_v110 (by decide +kernel)).trans (w38_sc m c)
theorem w39_codes (c : Dev nD) : W39 m c main_v111_0 = cX m c := (W39_of m c main_v111_0 (by decide +kernel)).trans (w38_codes m c)
theorem w39_amax (c : Dev nD) : W39 m c main_v111_1 = amaxArr0 (E37 m) c := (W39_of m c main_v111_1 (by decide +kernel)).trans (w38_amax m c)

/-- after the third region -/
theorem w40_dx (c : Dev nD) (γ : Γ m c) : W40 m c γ main_v113 = dxArr (cD m c) (cW m c) (sDX m c) := by
  refine (W40_arr m c γ 3).trans ?_
  refine (dx2 (E39 m) c γ.1 γ.2).trans ?_
  refine (congrArg₂ (fun a b => dxArr a b _) (w39_dc m c) (w39_wc m c)).trans ?_
  exact congrArg (dxArr (cD m c) (cW m c)) ((congrFun (w39_sc m c) _).trans (six_4 m c))
theorem w40_y (c : Dev nD) (γ : Γ m c) : W40 m c γ main_v112_0 = yArr (cX m c) (cW m c) (sY m c) := (W40_of m c γ main_v112_0 (by decide +kernel)).trans (w39_y m c)
theorem w40_dw (c : Dev nD) (γ : Γ m c) : W40 m c γ main_v112_1 = dwArr (cD m c) (cX m c) (sDW m c) := (W40_of m c γ main_v112_1 (by decide +kernel)).trans (w39_dw m c)
theorem w40_wc (c : Dev nD) (γ : Γ m c) : W40 m c γ main_v112_2 = cW m c := (W40_of m c γ main_v112_2 (by decide +kernel)).trans (w39_wc m c)
theorem w40_dc (c : Dev nD) (γ : Γ m c) : W40 m c γ main_v112_3 = cD m c := (W40_of m c γ main_v112_3 (by decide +kernel)).trans (w39_dc m c)
theorem w40_codes (c : Dev nD) (γ : Γ m c) : W40 m c γ main_v111_0 = cX m c := (W40_of m c γ main_v111_0 (by decide +kernel)).trans (w39_codes m c)
theorem w40_amax (c : Dev nD) (γ : Γ m c) : W40 m c γ main_v111_1 = amaxArr0 (E37 m) c := (W40_of m c γ main_v111_1 (by decide +kernel)).trans (w39_amax m c)
theorem w40_amax8 (c : Dev nD) (γ : Γ m c) : W40 m c γ main_v112_4 = amaxArr8 (E38 m) c := (W40_of m c γ main_v112_4 (by decide +kernel)).trans (w39_amax8 m c)
theorem w40_amax9 (c : Dev nD) (γ : Γ m c) : W40 m c γ main_v112_5 = amaxArr9 (E38 m) c := (W40_of m c γ main_v112_5 (by decide +kernel)).trans (w39_amax9 m c)

/-- A buffer no region and no later operation writes. -/
theorem w41_of (c : Dev nD) (γ : Γ m c) (r : Ref sig .tc) (h : r ∉ hostOps3_W) (h2 : ∀ w : Fin cfg2.W, Pipeline.arrRef spec2 w = r → (cfg2.win w).isOut = false)
    (h1 : ∀ w : Fin cfg1.W, Pipeline.arrRef spec1 w = r → (cfg1.win w).isOut = false) (h0 : ∀ w : Fin cfg0.W, Pipeline.arrRef spec0 w = r → (cfg0.win w).isOut = false) :
    W41 m c γ r = V37 m c r :=
  (W41_of m c γ r h).trans ((W40_of m c γ r h2).trans ((W39_of m c r h1).trans (W38_of m c r h0)))

theorem w41_72 (c : Dev nD) (γ : Γ m c) : W41 m c γ main_v72 = kP (E0 m c) :=
  (w41_of m c γ main_v72 (by decide +kernel) (by decide +kernel) (by decide +kernel) (by decide +kernel)).trans ((k72 m c).trans (congrArg kP (e0 m c)))
theorem w41_77 (c : Dev nD) (γ : Γ m c) : W41 m c γ main_v77 = kP (E1 m c) :=
  (w41_of m c γ main_v77 (by decide +kernel) (by decide +kernel) (by decide +kernel) (by decide +kernel)).trans ((k77 m c).trans (congrArg kP (e1 m c)))
theorem w41_82 (c : Dev nD) (γ : Γ m c) : W41 m c γ main_v82 = kP (E2 m c) :=
  (w41_of m c γ main_v82 (by decide +kernel) (by decide +kernel) (by decide +kernel) (by decide +kernel)).trans ((k82 m c).trans (congrArg kP (e2 m c)))
theorem w41_dw (c : Dev nD) (γ : Γ m c) : W41 m c γ main_v112_1 = dwArr (cD m c) (cX m c) (sDW m c) := (W41_of m c γ main_v112_1 (by decide +kernel)).trans (w40_dw m c γ)
theorem w41_wc (c : Dev nD) (γ : Γ m c) : W41 m c γ main_v112_2 = cW m c := (W41_of m c γ main_v112_2 (by decide +kernel)).trans (w40_wc m c γ)

/-! ## The operations after the last region -/

theorem t125 (U : Valuation τ sig (Elt Ideal)) : StableHlo.after hostOps3 U main_v125 = shapeCast S4x1024x14848 (U main_v112_0 : S4096x14848.Idx → EReal) shapeCasts_S4096x14848_S4x1024x14848 := by
  after_reads_simp
  rfl
theorem t126 (U : Valuation τ sig (Elt Ideal)) : StableHlo.after hostOps3 U main_v126 = shapeCast S4x1024x5760 (U main_v113 : S4096x5760.Idx → EReal) shapeCasts_S4096x5760_S4x1024x5760 := by
  after_reads_simp
  rfl
theorem t127 (U : Valuation τ sig (Elt Ideal)) : StableHlo.after hostOps3 U main_v127 = shapeCast S4x1024x5760 (U main_v111_0 : S4096x5760.Idx → EReal) shapeCasts_S4096x5760_S4x1024x5760 := by
  after_reads_simp
  rfl
theorem t128 (U : Valuation τ sig (Elt Ideal)) : StableHlo.after hostOps3 U main_v128 = shapeCast S4x1024x14848 (U main_v112_3 : S4096x14848.Idx → EReal) shapeCasts_S4096x14848_S4x1024x14848 := by
  after_reads_simp
  rfl

/-- The largest entry of each of the three arrays of maxima. -/
def red5760 (X : FVec Ideal S16x5760 .bf16) : FVec Ideal S_ .bf16 := Host.reduce (FloatOps.maximumf (F := Ideal) (φ := .bf16)) X (constant (F := Ideal) S_ .bf16 0xFF80#16) reducesTo_S16x5760_S_d0_1 h_S_
def red256 (X : FVec Ideal S16x256 .bf16) : FVec Ideal S_ .bf16 := Host.reduce (FloatOps.maximumf (F := Ideal) (φ := .bf16)) X (constant (F := Ideal) S_ .bf16 0xFF80#16) reducesTo_S16x256_S_d0_1 h_S_
/-- Three single entries stacked. -/
def cat3 (a b d : FVec Ideal S1 .bf16) : FVec Ideal S3 .bf16 := concatenate S3 0 [⟨S1, a⟩, ⟨S1, b⟩, ⟨S1, d⟩] concatenates_S1_S1_S1_S3_d0
/-- The history with a column of new maxima before it, its last column dropped. -/
def hist (a b d : FVec Ideal S_ .bf16) (h : FVec Ideal S3x16 .f32) : FVec Ideal S3x16 .f32 :=
  concatenate S3x16 1 [⟨S3x1, broadcastInDim S3x1 ![0] bcast_S3_S3x1_0 (extf (F := Ideal) .f32 (cat3 (broadcastInDim S1 ![] bcast_S_S1 a) (broadcastInDim S1 ![] bcast_S_S1 b) (broadcastInDim S1 ![] bcast_S_S1 d)) bitsLt_bf16_f32)⟩,
    ⟨S3x15, extractStridedSlice S3x15 ![0, 0] h slices_S3x16_S3x15_0_0⟩] concatenates_S3x1_S3x15_S3x16_d1

theorem cat3_of (a a' b b' d d' : FVec Ideal S1 .bf16) (ha : a = a') (hb : b = b') (hd : d = d') : cat3 a b d = cat3 a' b' d' := by
  rw [ha, hb, hd]

theorem t120 (U : Valuation τ sig (Elt Ideal)) : StableHlo.after hostOps3 U main_v120 = cat3 (broadcastInDim S1 ![] bcast_S_S1 (red5760 (U main_v111_1))) (broadcastInDim S1 ![] bcast_S_S1 (red5760 (U main_v112_4))) (broadcastInDim S1 ![] bcast_S_S1 (red256 (U main_v112_5))) := by
  after_reads_simp
  refine Eq.trans (b := cat3 (StableHlo.upto hostOps3 U 9 main_v117) (StableHlo.upto hostOps3 U 9 main_v118) (StableHlo.upto hostOps3 U 9 main_v119)) rfl ?_
  refine cat3_of _ _ _ _ _ _ ?_ ?_ ?_
  · after_reads_simp
    rfl
  · after_reads_simp
    rfl
  · after_reads_simp
    rfl

theorem cat2_of (a a' : FVec Ideal S3x1 .f32) (b b' : FVec Ideal S3x15 .f32) (ha : a = a') (hb : b = b') :
    concatenate S3x16 1 [⟨S3x1, a⟩, ⟨S3x15, b⟩] concatenates_S3x1_S3x15_S3x16_d1 = concatenate S3x16 1 [⟨S3x1, a'⟩, ⟨S3x15, b'⟩] concatenates_S3x1_S3x15_S3x16_d1 := by
  subst ha hb
  rfl

theorem t124' (U : Valuation τ sig (Elt Ideal)) : StableHlo.after hostOps3 U main_v124 = concatenate S3x16 1 [⟨S3x1, (StableHlo.after hostOps3 U main_v122 : FVec Ideal S3x1 .f32)⟩, ⟨S3x15, (StableHlo.after hostOps3 U main_v123 : FVec Ideal S3x15 .f32)⟩] concatenates_S3x1_S3x15_S3x16_d1 := by
  after_reads_simp
  refine cat2_of _ _ _ _ ?_ ?_ <;> after_reads_simp
theorem t122' (U : Valuation τ sig (Elt Ideal)) : StableHlo.after hostOps3 U main_v122 = broadcastInDim S3x1 ![0] bcast_S3_S3x1_0 (extf (F := Ideal) .f32 (StableHlo.after hostOps3 U main_v120 : FVec Ideal S3 .bf16) bitsLt_bf16_f32) := by
  after_reads_simp
theorem t123' (U : Valuation τ sig (Elt Ideal)) : StableHlo.after hostOps3 U main_v123 = extractStridedSlice S3x15 ![0, 0] (U main_arg3 : FVec Ideal S3x16 .f32) slices_S3x16_S3x15_0_0 := by
  after_reads_simp

theorem t124 (U : Valuation τ sig (Elt Ideal)) : StableHlo.after hostOps3 U main_v124 = hist (red5760 (U main_v111_1)) (red5760 (U main_v112_4)) (red256 (U main_v112_5)) (U main_arg3) := by
  rw [t124', t122', t123', t120]
  rfl
end Cert.KernelIdeal.Gen.H
-- ==== Proof.V.KEnd.lean ====
/-
  What the kernel's run leaves in each of its results.
-/
module

public import proofs.«01_k».proof.Proof.V.KVals
public import proofs.«01_k».proof.Proof.KI.Run

@[expose] public section

set_option maxRecDepth 16384

noncomputable section

namespace Cert.KernelIdeal.Gen.H

open Idealize.ShloMosaic Idealize.ShloMosaic.TcCoe Idealize.SL.Sem
open Cert.Spec
open Cert.KernelIdeal Cert.KernelIdeal.Gen

variable (m : (ℓ : Loc nD τ sig) → Buf (Elt Ideal) ℓ) (ρ : Dev nD → PrngReg)

theorem w41_125 (c : Dev nD) (γ : Γ m c) : W41 m c γ main_v125 = shapeCast S4x1024x14848 (yArr (cX m c) (cW m c) (sY m c)) shapeCasts_S4096x14848_S4x1024x14848 :=
  (t125 (W40 m c γ)).trans (congrArg (fun a => shapeCast S4x1024x14848 a _) (w40_y m c γ))
theorem w41_126 (c : Dev nD) (γ : Γ m c) : W41 m c γ main_v126 = shapeCast S4x1024x5760 (dxArr (cD m c) (cW m c) (sDX m c)) shapeCasts_S4096x5760_S4x1024x5760 :=
  (t126 (W40 m c γ)).trans (congrArg (fun a => shapeCast S4x1024x5760 a _) (w40_dx m c γ))
theorem w41_127 (c : Dev nD) (γ : Γ m c) : W41 m c γ main_v127 = shapeCast S4x1024x5760 (cX m c) shapeCasts_S4096x5760_S4x1024x5760 :=
  (t127 (W40 m c γ)).trans (congrArg (fun a => shapeCast S4x1024x5760 a _) (w40_codes m c γ))
theorem w41_128 (c : Dev nD) (γ : Γ m c) : W41 m c γ main_v128 = shapeCast S4x1024x14848 (cD m c) shapeCasts_S4096x14848_S4x1024x14848 :=
  (t128 (W40 m c γ)).trans (congrArg (fun a => shapeCast S4x1024x14848 a _) (w40_dc m c γ))
theorem w40_arg3 (c : Dev nD) (γ : Γ m c) : W40 m c γ main_arg3 = m ((c : Thread nD τ).loc main_arg3) :=
  (W41_of m c γ main_arg3 (argsTail _ (by decide))).symm.trans (W41_args m c γ main_arg3 (by decide))
theorem w41_124 (c : Dev nD) (γ : Γ m c) : W41 m c γ main_v124 = hist (red5760 (amaxArr0 (E37 m) c)) (red5760 (amaxArr8 (E38 m) c)) (red256 (amaxArr9 (E38 m) c)) (m ((c : Thread nD τ).loc main_arg3)) := by
  refine (t124 (W40 m c γ)).trans ?_
  rw [w40_amax, w40_amax8, w40_amax9, w40_arg3]

/-- The run of the kernel, each result at its value and each argument as launched. -/
theorem values : θ_run defs (onTc (τ := τ) (main (F := Ideal))) ⟨m, fun _ => 0, ρ⟩ (fun r => ∀ c : Dev nD,
      r.2.mem ((c.tc : Thread nD τ).loc main_v125) = shapeCast S4x1024x14848 (yArr (cX m c) (cW m c) (sY m c)) shapeCasts_S4096x14848_S4x1024x14848
      ∧ r.2.mem ((c.tc : Thread nD τ).loc main_v126) = shapeCast S4x1024x5760 (dxArr (cD m c) (cW m c) (sDX m c)) shapeCasts_S4096x5760_S4x1024x5760
      ∧ r.2.mem ((c.tc : Thread nD τ).loc main_v112_1) = dwArr (cD m c) (cX m c) (sDW m c)
      ∧ r.2.mem ((c.tc : Thread nD τ).loc main_v127) = shapeCast S4x1024x5760 (cX m c) shapeCasts_S4096x5760_S4x1024x5760
      ∧ r.2.mem ((c.tc : Thread nD τ).loc main_v72) = kP (E0 m c)
      ∧ r.2.mem ((c.tc : Thread nD τ).loc main_v112_2) = cW m c
      ∧ r.2.mem ((c.tc : Thread nD τ).loc main_v77) = kP (E1 m c)
      ∧ r.2.mem ((c.tc : Thread nD τ).loc main_v128) = shapeCast S4x1024x14848 (cD m c) shapeCasts_S4096x14848_S4x1024x14848
      ∧ r.2.mem ((c.tc : Thread nD τ).loc main_v82) = kP (E2 m c)
      ∧ r.2.mem ((c.tc : Thread nD τ).loc main_v124) = hist (red5760 (amaxArr0 (E37 m) c)) (red5760 (amaxArr8 (E38 m) c)) (red256 (amaxArr9 (E38 m) c)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨γ, hγ⟩ := h.1 c
    have at_ : ∀ b : Ref sig .tc, ¬ (Proc.devRef .tc b : DevRef τ sig).isScoped → r.2.mem ((c.tc : Thread nD τ).loc b) = W41 m c γ (Proc.devRef .tc b) :=
      fun b hs => hγ _ (mem_uc b hs)
    exact ⟨(at_ main_v125 (by decide)).trans (w41_125 m c γ), (at_ main_v126 (by decide)).trans (w41_126 m c γ),
      (at_ main_v112_1 (by decide)).trans (w41_dw m c γ), (at_ main_v127 (by decide)).trans (w41_127 m c γ),
      (at_ main_v72 (by decide)).trans (w41_72 m c γ), (at_ main_v112_2 (by decide)).trans (w41_wc m c γ),
      (at_ main_v77 (by decide)).trans (w41_77 m c γ), (at_ main_v128 (by decide)).trans (w41_128 m c γ),
      (at_ main_v82 (by decide)).trans (w41_82 m c γ), (at_ main_v124 (by decide)).trans (w41_124 m c γ),
      (at_ main_arg0 (by decide)).trans (W41_args m c γ main_arg0 (by decide)), (at_ main_arg1 (by decide)).trans (W41_args m c γ main_arg1 (by decide)),
      (at_ main_arg2 (by decide)).trans (W41_args m c γ main_arg2 (by decide)), (at_ main_arg3 (by decide)).trans (W41_args m c γ main_arg3 (by decide))⟩) (run m ρ)

end Cert.KernelIdeal.Gen.H
-- ==== Proof.V.RefReg.lean ====
module

public import proofs.«01_k».proof.Proof.Gen.ReferenceIdeal.Frame
public import proofs.«01_k».proof.Proof.V.Spec

@[expose] public section

set_option maxRecDepth 16384

noncomputable section

namespace Cert.ReferenceIdeal.Gen

open Idealize.ShloMosaic Idealize.ShloMosaic.TcCoe
open Cert.Spec
open Idealize.ShloMosaic.Pipeline (Dat Cfg Window)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] :=
  by decide +kernel

/-- the one cell of a 1 by 1 array -/
abbrev cell (X : S1x1.Idx → EReal) : EReal := X (ix2 0 0)

theorem pay4_apply (v : Vec Ideal S4096x5760 .bf16) (s : Vec Ideal S1x1 .f32) (r : Fin 4096) (k : Fin 5760) :
    k0_pay4 v s (ix2 r k) = q4 (v (ix2 r k)) (cell s) := by
  unfold k0_pay4 q4 clip cell
  clean_types
  pointwise
  try rfl

theorem pay5_apply (v : Vec Ideal S14848x5760 .bf16) (s : Vec Ideal S1x1 .f32) (r : Fin 14848) (k : Fin 5760) :
    k0_pay5 v s (ix2 r k) = q4 (v (ix2 r k)) (cell s) := by
  unfold k0_pay5 q4 clip cell
  clean_types
  pointwise
  try rfl

theorem pay6_apply (v : Vec Ideal S4096x14848 .bf16) (s : Vec Ideal S1x1 .f32) (r : Fin 4096) (k : Fin 14848) :
    k0_pay6 v s (ix2 r k) = q5 (v (ix2 r k)) (cell s) := by
  unfold k0_pay6 q5 clip cell
  clean_types
  pointwise
  try rfl

theorem pay1_apply (x : Vec Ideal S4096x5760 .bf16) (sx : Vec Ideal S1x1 .f32) (w : Vec Ideal S14848x5760 .bf16) (sw s : Vec Ideal S1x1 .f32) (r : Fin 4096) (o : Fin 14848) :
    k0_pay1 (k0_pay7 x sx w sw) s (ix2 r o) = (∑ k : Fin 5760, k0_pay4 x sx (ix2 r k) * k0_pay5 w sw (ix2 o k)) * cell s := by
  unfold k0_pay1 k0_pay7 cell
  generalize k0_pay4 x sx = X
  generalize k0_pay5 w sw = W
  clean_types
  pointwise
  try rfl

theorem pay2_apply (w : Vec Ideal S14848x5760 .bf16) (sw : Vec Ideal S1x1 .f32) (d : Vec Ideal S4096x14848 .bf16) (sd s : Vec Ideal S1x1 .f32) (r : Fin 4096) (k : Fin 5760) :
    k0_pay2 (k0_pay8 w sw d sd) s (ix2 r k) = (∑ o : Fin 14848, k0_pay6 d sd (ix2 r o) * k0_pay5 w sw (ix2 o k)) * cell s := by
  unfold k0_pay2 k0_pay8 cell
  generalize k0_pay6 d sd = X
  generalize k0_pay5 w sw = W
  clean_types
  pointwise
  try rfl

theorem pay3_apply (x : Vec Ideal S4096x5760 .bf16) (sx : Vec Ideal S1x1 .f32) (d : Vec Ideal S4096x14848 .bf16) (sd s : Vec Ideal S1x1 .f32) (o : Fin 14848) (k : Fin 5760) :
    k0_pay3 (k0_pay9 x sx d sd) s (ix2 o k) = (∑ r : Fin 4096, k0_pay6 d sd (ix2 r o) * k0_pay4 x sx (ix2 r k)) * cell s := by
  unfold k0_pay3 k0_pay9 cell
  generalize k0_pay6 d sd = X
  generalize k0_pay4 x sx = W
  clean_types
  pointwise
  try rfl

/-- the contents found at the region's entry, never opened here: a composition of every operation before it -/
@[irreducible] def VR (c : Dev nD) (b : Ref sig .tc) : Buf (Elt Ideal) ((c : Thread nD τ).loc b) := V m c b

theorem rd0 (t : Fin cfg0.N) (X : Vec Ideal S1x1 .f32) : ((cfg0.win 0).blk t).view.read (Elt Ideal) X = X := by
  funext j; blk_ext [idx t]
theorem blk0 (c : Dev nD) (t : Fin cfg0.N) : iblk m c 0 t = VR m c (Pipeline.arrRef spec0 0) := (rd0 t _).trans (by unfold VR; rfl)
theorem rd1 (t : Fin cfg0.N) (X : Vec Ideal S1x1 .f32) : ((cfg0.win 1).blk t).view.read (Elt Ideal) X = X := by
  funext j; blk_ext [idx t]
theorem blk1 (c : Dev nD) (t : Fin cfg0.N) : iblk m c 1 t = VR m c (Pipeline.arrRef spec0 1) := (rd1 t _).trans (by unfold VR; rfl)
theorem rd2 (t : Fin cfg0.N) (X : Vec Ideal S1x1 .f32) : ((cfg0.win 2).blk t).view.read (Elt Ideal) X = X := by
  funext j; blk_ext [idx t]
theorem blk2 (c : Dev nD) (t : Fin cfg0.N) : iblk m c 2 t = VR m c (Pipeline.arrRef spec0 2) := (rd2 t _).trans (by unfold VR; rfl)
theorem rd3 (t : Fin cfg0.N) (X : Vec Ideal S1x1 .f32) : ((cfg0.win 3).blk t).view.read (Elt Ideal) X = X := by
  funext j; blk_ext [idx t]
theorem blk3 (c : Dev nD) (t : Fin cfg0.N) : iblk m c 3 t = VR m c (Pipeline.arrRef spec0 3) := (rd3 t _).trans (by unfold VR; rfl)
theorem rd4 (t : Fin cfg0.N) (X : Vec Ideal S1x1 .f32) : ((cfg0.win 4).blk t).view.read (Elt Ideal) X = X := by
  funext j; blk_ext [idx t]
theorem blk4 (c : Dev nD) (t : Fin cfg0.N) : iblk m c 4 t = VR m c (Pipeline.arrRef spec0 4) := (rd4 t _).trans (by unfold VR; rfl)
theorem rd5 (t : Fin cfg0.N) (X : Vec Ideal S1x1 .f32) : ((cfg0.win 5).blk t).view.read (Elt Ideal) X = X := by
  funext j; blk_ext [idx t]
theorem blk5 (c : Dev nD) (t : Fin cfg0.N) : iblk m c 5 t = VR m c (Pipeline.arrRef spec0 5) := (rd5 t _).trans (by unfold VR; rfl)
theorem rd6 (t : Fin cfg0.N) (X : Vec Ideal S4096x5760 .bf16) : ((cfg0.win 6).blk t).view.read (Elt Ideal) X = X := by
  funext j; blk_ext [idx t]
theorem blk6 (c : Dev nD) (t : Fin cfg0.N) : iblk m c 6 t = VR m c (Pipeline.arrRef spec0 6) := (rd6 t _).trans (by unfold VR; rfl)
theorem rd7 (t : Fin cfg0.N) (X : Vec Ideal S14848x5760 .bf16) : ((cfg0.win 7).blk t).view.read (Elt Ideal) X = X := by
  funext j; blk_ext [idx t]
theorem blk7 (c : Dev nD) (t : Fin cfg0.N) : iblk m c 7 t = VR m c (Pipeline.arrRef spec0 7) := (rd7 t _).trans (by unfold VR; rfl)
theorem rd8 (t : Fin cfg0.N) (X : Vec Ideal S4096x14848 .bf16) : ((cfg0.win 8).blk t).view.read (Elt Ideal) X = X := by
  funext j; blk_ext [idx t]
theorem blk8 (c : Dev nD) (t : Fin cfg0.N) : iblk m c 8 t = VR m c (Pipeline.arrRef spec0 8) := (rd8 t _).trans (by unfold VR; rfl)

/-- the reference's codes -/
def xcR (c : Dev nD) : SX.Idx → EReal := fun i => q4 (VR m c (Pipeline.arrRef spec0 6) i) (cell (VR m c (Pipeline.arrRef spec0 0)))
def wcR (c : Dev nD) : SW.Idx → EReal := fun i => q4 (VR m c (Pipeline.arrRef spec0 7) i) (cell (VR m c (Pipeline.arrRef spec0 1)))
def dcR (c : Dev nD) : SY.Idx → EReal := fun i => q5 (VR m c (Pipeline.arrRef spec0 8) i) (cell (VR m c (Pipeline.arrRef spec0 2)))

theorem xc_arr (c : Dev nD) : (dats m 0 c).arrAt 12 cfg0.N = xcR m c := by
  refine (dats m 0 c).arrAt_eq_of_covers 12 _ (by decide +kernel) fun t hf y => ?_
  blk_simp
  rw [after0_12, blk0, blk6]
  frame_out
  idx_vars y
  refine (pay4_apply _ _ _ _).trans (congrArg (xcR m c) ?_)
  blk_ext [idx t]

theorem wc_arr (c : Dev nD) : (dats m 0 c).arrAt 13 cfg0.N = wcR m c := by
  refine (dats m 0 c).arrAt_eq_of_covers 13 _ (by decide +kernel) fun t hf y => ?_
  blk_simp
  rw [after0_13, blk1, blk7]
  frame_out
  idx_vars y
  refine (pay5_apply _ _ _ _).trans (congrArg (wcR m c) ?_)
  blk_ext [idx t]

theorem dc_arr (c : Dev nD) : (dats m 0 c).arrAt 14 cfg0.N = dcR m c := by
  refine (dats m 0 c).arrAt_eq_of_covers 14 _ (by decide +kernel) fun t hf y => ?_
  blk_simp
  rw [after0_14, blk2, blk8]
  frame_out
  idx_vars y
  refine (pay6_apply _ _ _ _).trans (congrArg (dcR m c) ?_)
  blk_ext [idx t]

theorem pay1_arr (x : Vec Ideal S4096x5760 .bf16) (sx : Vec Ideal S1x1 .f32) (w : Vec Ideal S14848x5760 .bf16) (sw s : Vec Ideal S1x1 .f32) :
    k0_pay1 (k0_pay7 x sx w sw) s = yArr (fun i => q4 (x i) (cell sx)) (fun i => q4 (w i) (cell sw)) (cell s) := by
  funext y
  idx_vars y
  refine (pay1_apply _ _ _ _ _ _ _).trans ?_
  simp only [pay4_apply, pay5_apply]
  rfl

theorem pay2_arr (w : Vec Ideal S14848x5760 .bf16) (sw : Vec Ideal S1x1 .f32) (d : Vec Ideal S4096x14848 .bf16) (sd s : Vec Ideal S1x1 .f32) :
    k0_pay2 (k0_pay8 w sw d sd) s = dxArr (fun i => q5 (d i) (cell sd)) (fun i => q4 (w i) (cell sw)) (cell s) := by
  funext y
  idx_vars y
  refine (pay2_apply _ _ _ _ _ _ _).trans ?_
  simp only [pay6_apply, pay5_apply]
  rfl

theorem pay3_arr (x : Vec Ideal S4096x5760 .bf16) (sx : Vec Ideal S1x1 .f32) (d : Vec Ideal S4096x14848 .bf16) (sd s : Vec Ideal S1x1 .f32) :
    k0_pay3 (k0_pay9 x sx d sd) s = dwArr (fun i => q5 (d i) (cell sd)) (fun i => q4 (x i) (cell sx)) (cell s) := by
  funext y
  idx_vars y
  refine (pay3_apply _ _ _ _ _ _ _).trans ?_
  simp only [pay6_apply, pay4_apply]
  rfl

theorem emb9 (t : Fin cfg0.N) (y : S4096x14848.Idx) : (win0_9.blk t).view.emb y = y := by
  blk_ext [idx t]
theorem emb10 (t : Fin cfg0.N) (y : S4096x5760.Idx) : (win0_10.blk t).view.emb y = y := by
  blk_ext [idx t]
theorem emb11 (t : Fin cfg0.N) (y : S14848x5760.Idx) : (win0_11.blk t).view.emb y = y := by
  blk_ext [idx t]

theorem after_9 (c : Dev nD) (t : Fin cfg0.N) : (dats m 0 c).after 9 t = yArr (xcR m c) (wcR m c) (cell (VR m c (Pipeline.arrRef spec0 3))) := by
  rw [after0_9, blk0, blk1, blk3, blk6, blk7]
  frame_out
  rw [pay1_arr]
  rfl

theorem y_arr (c : Dev nD) : (dats m 0 c).arrAt 9 cfg0.N = yArr (xcR m c) (wcR m c) (cell (VR m c (Pipeline.arrRef spec0 3))) := by
  refine (dats m 0 c).arrAt_eq_of_covers 9 _ (by decide +kernel) fun t hf y => ?_
  blk_simp
  rw [after_9]
  exact congrArg (yArr (xcR m c) (wcR m c) (cell (VR m c (Pipeline.arrRef spec0 3)))) (emb9 t y).symm

theorem after_10 (c : Dev nD) (t : Fin cfg0.N) : (dats m 0 c).after 10 t = dxArr (dcR m c) (wcR m c) (cell (VR m c (Pipeline.arrRef spec0 4))) := by
  rw [after0_10, blk1, blk2, blk4, blk7, blk8]
  frame_out
  rw [pay2_arr]
  rfl

theorem dx_arr (c : Dev nD) : (dats m 0 c).arrAt 10 cfg0.N = dxArr (dcR m c) (wcR m c) (cell (VR m c (Pipeline.arrRef spec0 4))) := by
  refine (dats m 0 c).arrAt_eq_of_covers 10 _ (by decide +kernel) fun t hf y => ?_
  blk_simp
  rw [after_10]
  exact congrArg (dxArr (dcR m c) (wcR m c) (cell (VR m c (Pipeline.arrRef spec0 4)))) (emb10 t y).symm

theorem after_11 (c : Dev nD) (t : Fin cfg0.N) : (dats m 0 c).after 11 t = dwArr (dcR m c) (xcR m c) (cell (VR m c (Pipeline.arrRef spec0 5))) := by
  rw [after0_11, blk0, blk2, blk5, blk6, blk8]
  frame_out
  rw [pay3_arr]
  rfl

theorem dw_arr (c : Dev nD) : (dats m 0 c).arrAt 11 cfg0.N = dwArr (dcR m c) (xcR m c) (cell (VR m c (Pipeline.arrRef spec0 5))) := by
  refine (dats m 0 c).arrAt_eq_of_covers 11 _ (by decide +kernel) fun t hf y => ?_
  blk_simp
  rw [after_11]
  exact congrArg (dwArr (dcR m c) (xcR m c) (cell (VR m c (Pipeline.arrRef spec0 5)))) (emb11 t y).symm

end Cert.ReferenceIdeal.Gen

end
-- ==== Proof.V.RHost.lean ====
/-
  What the host operations before the reference's region leave: the scales and the reshaped arguments.
-/
module

public import proofs.«01_k».proof.Proof.V.RefReg
public import Idealize.ShloMosaic.Lib.StableHlo.RunRead
public import Idealize.ShloMosaic.Lib.StableHlo.ReadAt

@[expose] public section

set_option maxRecDepth 16384

noncomputable section

namespace Cert.ReferenceIdeal.Gen

open Idealize.ShloMosaic Idealize.ShloMosaic.TcCoe
open Cert.Spec

/-- The largest entry of row 0 of the history. -/
def rA0 (a3 : Vec Ideal S3x16 .f32) : Vec Ideal S_ .f32 :=
  Host.reduce (FloatOps.maximumf (F := Ideal) (φ := .f32)) (shapeCast S16 (extractStridedSlice S1x16 ![0, 0] a3 slices_S3x16_S1x16_0_0) shapeCasts_S1x16_S16) (constant (F := Ideal) S_ .f32 0xFF800000#32) reducesTo_S16_S_d0 h_S_

/-- The largest entry of row 1 of the history. -/
def rA1 (a3 : Vec Ideal S3x16 .f32) : Vec Ideal S_ .f32 :=
  Host.reduce (FloatOps.maximumf (F := Ideal) (φ := .f32)) (shapeCast S16 (extractStridedSlice S1x16 ![1, 0] a3 slices_S3x16_S1x16_1_0) shapeCasts_S1x16_S16) (constant (F := Ideal) S_ .f32 0xFF800000#32) reducesTo_S16_S_d0 h_S_

/-- The largest entry of row 2 of the history. -/
def rA2 (a3 : Vec Ideal S3x16 .f32) : Vec Ideal S_ .f32 :=
  Host.reduce (FloatOps.maximumf (F := Ideal) (φ := .f32)) (shapeCast S16 (extractStridedSlice S1x16 ![2, 0] a3 slices_S3x16_S1x16_2_0) shapeCasts_S1x16_S16) (constant (F := Ideal) S_ .f32 0xFF800000#32) reducesTo_S16_S_d0 h_S_

/-- The exponents `-126 … 127` the reference compares against. -/
def rK : Vec Ideal S254 .i32 := subi (iotaInDim S254 32 0) (broadcastInDim S254 ![] bcast_S_S254 (constantI S_ 32 126#32))

/-- One more than the largest exponent whose power of two is at most `v`, or `-126`. -/
def rMax (v : Vec Ideal S_ .f32) : Vec Ideal S_ .i32 :=
  Host.reduce IntOp.maxsi (select (cmpf (F := Ideal) (φ := .f32) .ole (Host.powf (F := Ideal) (φ := .f32) (broadcastInDim S254 ![] bcast_S_S254 (constant (F := Ideal) S_ .f32 0x40000000#32)) (sitofp (F := Ideal) .f32 rK)) (broadcastInDim S254 ![] bcast_S_S254 v))
      (addi rK (broadcastInDim S254 ![] bcast_S_S254 (constantI S_ 32 1#32))) (broadcastInDim S254 ![] bcast_S_S254 (constantI S_ 32 4294967170#32)))
    (constantI S_ 32 2147483648#32) reducesTo_S254_S_d0 h_S_

/-- The magnitude the reference takes the exponent of. -/
def rV (A : Vec Ideal S_ .f32) (cst : BitVec 32) : Vec Ideal S_ .f32 := Host.absf (F := Ideal) (φ := .f32) (mulf (F := Ideal) (φ := .f32) A (constant (F := Ideal) S_ .f32 cst))

/-- The exponent the reference takes for a row with largest entry `A`. -/
def rE (A : Vec Ideal S_ .f32) (cst : BitVec 32) : Vec Ideal S_ .i32 :=
  select (cmpf (F := Ideal) (φ := .f32) .oeq A (constant (F := Ideal) S_ .f32 0x00000000#32)) (constantI S_ 32 0#32)
    (select (ori (cmpi .eq (rMax (rV A cst)) (constantI S_ 32 4294967170#32)) (cmpf (F := Ideal) (φ := .f32) .oeq (rV A cst) (constant (F := Ideal) S_ .f32 0x7F800000#32)))
      (constantI S_ 32 0#32) (rMax (rV A cst)))

/-- The power of two of an exponent, as the reference takes it. -/
def rP (E : Vec Ideal S_ .i32) : Vec Ideal S_ .f32 :=
  select (cmpi .sgt E (constantI S_ 32 127#32)) (constant (F := Ideal) S_ .f32 0x7F800000#32)
    (select (cmpi .slt E (constantI S_ 32 4294967170#32)) (constant (F := Ideal) S_ .f32 0x00000000#32)
      (Host.powf (F := Ideal) (φ := .f32) (constant (F := Ideal) S_ .f32 0x40000000#32) (sitofp (F := Ideal) .f32 E)))

variable (m : (ℓ : Loc nD τ sig) → Buf (Elt Ideal) ℓ)

/-- The contents at the start. -/
@[irreducible] def M0 (c : Dev nD) : Valuation τ sig (Elt Ideal) := fun b => m (c, b)

/-- The contents after stretches 0 to 5. -/
@[irreducible] def R0 (c : Dev nD) : Valuation τ sig (Elt Ideal) := StableHlo.after hostOps0_5 (StableHlo.after hostOps0_4 (StableHlo.after hostOps0_3 (StableHlo.after hostOps0_2 (StableHlo.after hostOps0_1 (StableHlo.after hostOps0 (M0 m c))))))

/-- The contents after stretches 6 to 13. -/
@[irreducible] def R1 (c : Dev nD) : Valuation τ sig (Elt Ideal) := StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (R0 m c))))))))

/-- The contents after stretches 14 to 19. -/
@[irreducible] def R2 (c : Dev nD) : Valuation τ sig (Elt Ideal) := StableHlo.after hostOps0_19 (StableHlo.after hostOps0_18 (StableHlo.after hostOps0_17 (StableHlo.after hostOps0_16 (StableHlo.after hostOps0_15 (StableHlo.after hostOps0_14 (R1 m c))))))

/-- The contents after stretches 20 to 27. -/
@[irreducible] def R3 (c : Dev nD) : Valuation τ sig (Elt Ideal) := StableHlo.after hostOps0_27 (StableHlo.after hostOps0_26 (StableHlo.after hostOps0_25 (StableHlo.after hostOps0_24 (StableHlo.after hostOps0_23 (StableHlo.after hostOps0_22 (StableHlo.after hostOps0_21 (StableHlo.after hostOps0_20 (R2 m c))))))))

/-- The contents after stretches 28 to 33. -/
@[irreducible] def R4 (c : Dev nD) : Valuation τ sig (Elt Ideal) := StableHlo.after hostOps0_33 (StableHlo.after hostOps0_32 (StableHlo.after hostOps0_31 (StableHlo.after hostOps0_30 (StableHlo.after hostOps0_29 (StableHlo.after hostOps0_28 (R3 m c))))))

/-- The contents after stretches 34 to 41. -/
@[irreducible] def R5 (c : Dev nD) : Valuation τ sig (Elt Ideal) := StableHlo.after hostOps0_41 (StableHlo.after hostOps0_40 (StableHlo.after hostOps0_39 (StableHlo.after hostOps0_38 (StableHlo.after hostOps0_37 (StableHlo.after hostOps0_36 (StableHlo.after hostOps0_35 (StableHlo.after hostOps0_34 (R4 m c))))))))

theorem V0_eq (c : Dev nD) : V0 m c = StableHlo.after hostOps0_42 (R5 m c) := by
  unfold R5 R4 R3 R2 R1 R0 M0 V0
  simp only [List.flatten_cons, List.flatten_nil, List.append_nil, StableHlo.after_append]

theorem M0_eq (c : Dev nD) (b : Ref sig .tc) : M0 m c b = m ((c : Thread nD τ).loc b) := by
  unfold M0
  rfl

theorem sR3_arg3 (c : Dev nD) : R3 m c main_arg3 = R2 m c main_arg3 := by
  unfold R3
  after_reads_simp

theorem sR2_arg3 (c : Dev nD) : R2 m c main_arg3 = R1 m c main_arg3 := by
  unfold R2
  after_reads_simp

theorem sR1_arg3 (c : Dev nD) : R1 m c main_arg3 = R0 m c main_arg3 := by
  unfold R1
  after_reads_simp

theorem sR0_arg3 (c : Dev nD) : R0 m c main_arg3 = M0 m c main_arg3 := by
  unfold R0
  after_reads_simp

theorem sV0_arg0 (c : Dev nD) : V0 m c main_arg0 = R5 m c main_arg0 := by
  rw [V0_eq]
  after_reads_simp

theorem sR5_arg0 (c : Dev nD) : R5 m c main_arg0 = R4 m c main_arg0 := by
  unfold R5
  after_reads_simp

theorem sR4_arg0 (c : Dev nD) : R4 m c main_arg0 = R3 m c main_arg0 := by
  unfold R4
  after_reads_simp

theorem sR3_arg0 (c : Dev nD) : R3 m c main_arg0 = R2 m c main_arg0 := by
  unfold R3
  after_reads_simp

theorem sR2_arg0 (c : Dev nD) : R2 m c main_arg0 = R1 m c main_arg0 := by
  unfold R2
  after_reads_simp

theorem sR1_arg0 (c : Dev nD) : R1 m c main_arg0 = R0 m c main_arg0 := by
  unfold R1
  after_reads_simp

theorem sR0_arg0 (c : Dev nD) : R0 m c main_arg0 = M0 m c main_arg0 := by
  unfold R0
  after_reads_simp

theorem sV0_arg2 (c : Dev nD) : V0 m c main_arg2 = R5 m c main_arg2 := by
  rw [V0_eq]
  after_reads_simp

theorem sR5_arg2 (c : Dev nD) : R5 m c main_arg2 = R4 m c main_arg2 := by
  unfold R5
  after_reads_simp

theorem sR4_arg2 (c : Dev nD) : R4 m c main_arg2 = R3 m c main_arg2 := by
  unfold R4
  after_reads_simp

theorem sR3_arg2 (c : Dev nD) : R3 m c main_arg2 = R2 m c main_arg2 := by
  unfold R3
  after_reads_simp

theorem sR2_arg2 (c : Dev nD) : R2 m c main_arg2 = R1 m c main_arg2 := by
  unfold R2
  after_reads_simp

theorem sR1_arg2 (c : Dev nD) : R1 m c main_arg2 = R0 m c main_arg2 := by
  unfold R1
  after_reads_simp

theorem sR0_arg2 (c : Dev nD) : R0 m c main_arg2 = M0 m c main_arg2 := by
  unfold R0
  after_reads_simp

theorem sV0_arg1 (c : Dev nD) : V0 m c main_arg1 = R5 m c main_arg1 := by
  rw [V0_eq]
  after_reads_simp

theorem sR5_arg1 (c : Dev nD) : R5 m c main_arg1 = R4 m c main_arg1 := by
  unfold R5
  after_reads_simp

theorem sR4_arg1 (c : Dev nD) : R4 m c main_arg1 = R3 m c main_arg1 := by
  unfold R4
  after_reads_simp

theorem sR3_arg1 (c : Dev nD) : R3 m c main_arg1 = R2 m c main_arg1 := by
  unfold R3
  after_reads_simp

theorem sR2_arg1 (c : Dev nD) : R2 m c main_arg1 = R1 m c main_arg1 := by
  unfold R2
  after_reads_simp

theorem sR1_arg1 (c : Dev nD) : R1 m c main_arg1 = R0 m c main_arg1 := by
  unfold R1
  after_reads_simp

theorem sR0_arg1 (c : Dev nD) : R0 m c main_arg1 = M0 m c main_arg1 := by
  unfold R0
  after_reads_simp

theorem x22' (c : Dev nD) : R0 m c main_v22 = rE (rA0 (M0 m c main_arg3)) 0x3B124925#32 := by
  unfold R0
  after_reads_simp
  unfold rE rMax rV rK rA0
  simp -implicitDefEqProofs only [StableHlo.TRef.ofBuf_toBuf, StableHlo.TRef.toBuf, StableHlo.TRef.ofBuf, cast_cast, cast_eq, id_eq]

  rfl
theorem x22 (c : Dev nD) : R0 m c main_v22 = rE (rA0 (m ((c : Thread nD τ).loc main_arg3))) 0x3B124925#32 := by
  rw [x22', M0_eq]

theorem x28 (c : Dev nD) : R1 m c main_v28 = rP (R0 m c main_v22) := by
  unfold R1
  after_reads_simp
  unfold rP
  simp -implicitDefEqProofs only [StableHlo.TRef.ofBuf_toBuf, StableHlo.TRef.toBuf, StableHlo.TRef.ofBuf, cast_cast, cast_eq, id_eq]

theorem x35 (c : Dev nD) : R1 m c main_v35 = rP (negi (R0 m c main_v22 : Vec Ideal S_ .i32)) := by
  unfold R1
  after_reads_simp
  unfold rP
  simp -implicitDefEqProofs only [StableHlo.TRef.ofBuf_toBuf, StableHlo.TRef.toBuf, StableHlo.TRef.ofBuf, cast_cast, cast_eq, id_eq]

theorem x58' (c : Dev nD) : R2 m c main_v58 = rE (rA1 (R1 m c main_arg3)) 0x3B124925#32 := by
  unfold R2
  after_reads_simp
  unfold rE rMax rV rK rA1
  simp -implicitDefEqProofs only [StableHlo.TRef.ofBuf_toBuf, StableHlo.TRef.toBuf, StableHlo.TRef.ofBuf, cast_cast, cast_eq, id_eq]

  rfl
theorem x58 (c : Dev nD) : R2 m c main_v58 = rE (rA1 (m ((c : Thread nD τ).loc main_arg3))) 0x3B124925#32 := by
  rw [x58', sR1_arg3, sR0_arg3, M0_eq]

theorem x64 (c : Dev nD) : R3 m c main_v64 = rP (R2 m c main_v58) := by
  unfold R3
  after_reads_simp
  unfold rP
  simp -implicitDefEqProofs only [StableHlo.TRef.ofBuf_toBuf, StableHlo.TRef.toBuf, StableHlo.TRef.ofBuf, cast_cast, cast_eq, id_eq]

theorem x71 (c : Dev nD) : R3 m c main_v71 = rP (negi (R2 m c main_v58 : Vec Ideal S_ .i32)) := by
  unfold R3
  after_reads_simp
  unfold rP
  simp -implicitDefEqProofs only [StableHlo.TRef.ofBuf_toBuf, StableHlo.TRef.toBuf, StableHlo.TRef.ofBuf, cast_cast, cast_eq, id_eq]

theorem x94' (c : Dev nD) : R4 m c main_v94 = rE (rA2 (R3 m c main_arg3)) 0x37924925#32 := by
  unfold R4
  after_reads_simp
  unfold rE rMax rV rK rA2
  simp -implicitDefEqProofs only [StableHlo.TRef.ofBuf_toBuf, StableHlo.TRef.toBuf, StableHlo.TRef.ofBuf, cast_cast, cast_eq, id_eq]

  rfl
theorem x94 (c : Dev nD) : R4 m c main_v94 = rE (rA2 (m ((c : Thread nD τ).loc main_arg3))) 0x37924925#32 := by
  rw [x94', sR3_arg3, sR2_arg3, sR1_arg3, sR0_arg3, M0_eq]

theorem x100 (c : Dev nD) : R5 m c main_v100 = rP (R4 m c main_v94) := by
  unfold R5
  after_reads_simp
  unfold rP
  simp -implicitDefEqProofs only [StableHlo.TRef.ofBuf_toBuf, StableHlo.TRef.toBuf, StableHlo.TRef.ofBuf, cast_cast, cast_eq, id_eq]

theorem x107 (c : Dev nD) : R5 m c main_v107 = rP (negi (R4 m c main_v94 : Vec Ideal S_ .i32)) := by
  unfold R5
  after_reads_simp
  unfold rP
  simp -implicitDefEqProofs only [StableHlo.TRef.ofBuf_toBuf, StableHlo.TRef.toBuf, StableHlo.TRef.ofBuf, cast_cast, cast_eq, id_eq]

theorem sV0_v28 (c : Dev nD) : V0 m c main_v28 = R5 m c main_v28 := by
  rw [V0_eq]
  after_reads_simp

theorem sR5_v28 (c : Dev nD) : R5 m c main_v28 = R4 m c main_v28 := by
  unfold R5
  after_reads_simp

theorem sR4_v28 (c : Dev nD) : R4 m c main_v28 = R3 m c main_v28 := by
  unfold R4
  after_reads_simp

theorem sR3_v28 (c : Dev nD) : R3 m c main_v28 = R2 m c main_v28 := by
  unfold R3
  after_reads_simp

theorem sR2_v28 (c : Dev nD) : R2 m c main_v28 = R1 m c main_v28 := by
  unfold R2
  after_reads_simp

theorem sR5_v35 (c : Dev nD) : R5 m c main_v35 = R4 m c main_v35 := by
  unfold R5
  after_reads_simp

theorem sR4_v35 (c : Dev nD) : R4 m c main_v35 = R3 m c main_v35 := by
  unfold R4
  after_reads_simp

theorem sR3_v35 (c : Dev nD) : R3 m c main_v35 = R2 m c main_v35 := by
  unfold R3
  after_reads_simp

theorem sR2_v35 (c : Dev nD) : R2 m c main_v35 = R1 m c main_v35 := by
  unfold R2
  after_reads_simp

theorem sV0_v64 (c : Dev nD) : V0 m c main_v64 = R5 m c main_v64 := by
  rw [V0_eq]
  after_reads_simp

theorem sR5_v64 (c : Dev nD) : R5 m c main_v64 = R4 m c main_v64 := by
  unfold R5
  after_reads_simp

theorem sR4_v64 (c : Dev nD) : R4 m c main_v64 = R3 m c main_v64 := by
  unfold R4
  after_reads_simp

theorem sR5_v71 (c : Dev nD) : R5 m c main_v71 = R4 m c main_v71 := by
  unfold R5
  after_reads_simp

theorem sR4_v71 (c : Dev nD) : R4 m c main_v71 = R3 m c main_v71 := by
  unfold R4
  after_reads_simp

theorem sV0_v100 (c : Dev nD) : V0 m c main_v100 = R5 m c main_v100 := by
  rw [V0_eq]
  after_reads_simp

theorem r28 (c : Dev nD) : V0 m c main_v28 = rP (R0 m c main_v22) := by
  rw [sV0_v28, sR5_v28, sR4_v28, sR3_v28, sR2_v28, x28]

theorem r64 (c : Dev nD) : V0 m c main_v64 = rP (R2 m c main_v58) := by
  rw [sV0_v64, sR5_v64, sR4_v64, x64]

theorem r100 (c : Dev nD) : V0 m c main_v100 = rP (R4 m c main_v94) := by
  rw [sV0_v100, x100]

theorem r108 (c : Dev nD) : V0 m c main_v108 = shapeCast S1x1 (rP (negi (R0 m c main_v22 : Vec Ideal S_ .i32))) shapeCasts_S_S1x1 := by
  rw [V0_eq, ← x35, ← sR2_v35, ← sR3_v35, ← sR4_v35, ← sR5_v35]
  after_reads_simp

  rfl
theorem r109 (c : Dev nD) : V0 m c main_v109 = shapeCast S1x1 (rP (negi (R2 m c main_v58 : Vec Ideal S_ .i32))) shapeCasts_S_S1x1 := by
  rw [V0_eq, ← x71, ← sR4_v71, ← sR5_v71]
  after_reads_simp

  rfl
theorem r110 (c : Dev nD) : V0 m c main_v110 = shapeCast S1x1 (rP (negi (R4 m c main_v94 : Vec Ideal S_ .i32))) shapeCasts_S_S1x1 := by
  rw [V0_eq, ← x107]
  after_reads_simp

  rfl
theorem r112 (c : Dev nD) : V0 m c main_v112 = shapeCast S1x1 (mulf (F := Ideal) (φ := .f32) (rP (R0 m c main_v22)) (rP (R2 m c main_v58))) shapeCasts_S_S1x1 := by
  rw [V0_eq, ← x28, ← x64, ← sR2_v28, ← sR3_v28, ← sR4_v28, ← sR5_v28, ← sR4_v64, ← sR5_v64]
  after_reads_simp

  rfl
theorem r114 (c : Dev nD) : V0 m c main_v114 = shapeCast S1x1 (mulf (F := Ideal) (φ := .f32) (rP (R4 m c main_v94)) (rP (R2 m c main_v58))) shapeCasts_S_S1x1 := by
  rw [V0_eq, ← x100, ← x64, ← sR4_v64, ← sR5_v64]
  after_reads_simp

  rfl
theorem r116 (c : Dev nD) : V0 m c main_v116 = shapeCast S1x1 (mulf (F := Ideal) (φ := .f32) (rP (R4 m c main_v94)) (rP (R0 m c main_v22))) shapeCasts_S_S1x1 := by
  rw [V0_eq, ← x100, ← x28, ← sR2_v28, ← sR3_v28, ← sR4_v28, ← sR5_v28]
  after_reads_simp

  rfl
theorem r117 (c : Dev nD) : V0 m c main_v117 = shapeCast S4096x5760 (m ((c : Thread nD τ).loc main_arg0)) shapeCasts_S4x1024x5760_S4096x5760 := by
  rw [← M0_eq m c main_arg0, ← sR0_arg0, ← sR1_arg0, ← sR2_arg0, ← sR3_arg0, ← sR4_arg0, ← sR5_arg0, V0_eq]
  after_reads_simp

  rfl
theorem r118 (c : Dev nD) : V0 m c main_v118 = shapeCast S4096x14848 (m ((c : Thread nD τ).loc main_arg2)) shapeCasts_S4x1024x14848_S4096x14848 := by
  rw [← M0_eq m c main_arg2, ← sR0_arg2, ← sR1_arg2, ← sR2_arg2, ← sR3_arg2, ← sR4_arg2, ← sR5_arg2, V0_eq]
  after_reads_simp

  rfl
theorem rarg1 (c : Dev nD) : V0 m c main_arg1 = m ((c : Thread nD τ).loc main_arg1) := by
  rw [sV0_arg1, sR5_arg1, sR4_arg1, sR3_arg1, sR2_arg1, sR1_arg1, sR0_arg1, M0_eq]

end Cert.ReferenceIdeal.Gen
-- ==== Proof.V.RVals.lean ====
/-
  What the reference's buffers hold at its end.
-/
module

public import proofs.«01_k».proof.Proof.V.RHost
public import Idealize.ShloMosaic.Lib.Pipeline.ValueKit

@[expose] public section

set_option maxRecDepth 16384

noncomputable section

namespace Cert.ReferenceIdeal.Gen

open Idealize.ShloMosaic Idealize.ShloMosaic.TcCoe
open Cert.Spec

variable (m : (ℓ : Loc nD τ sig) → Buf (Elt Ideal) ℓ)

/-- The three operands as matrices. -/
def zX (c : Dev nD) : SX.Idx → EReal := shapeCast S4096x5760 (m ((c : Thread nD τ).loc main_arg0)) shapeCasts_S4x1024x5760_S4096x5760
def zD (c : Dev nD) : SY.Idx → EReal := shapeCast S4096x14848 (m ((c : Thread nD τ).loc main_arg2)) shapeCasts_S4x1024x14848_S4096x14848
def zW (c : Dev nD) : SW.Idx → EReal := m ((c : Thread nD τ).loc main_arg1)

/-- The three exponents. -/
def F0 (c : Dev nD) : Vec Ideal S_ .i32 := rE (rA0 (m ((c : Thread nD τ).loc main_arg3))) 0x3B124925#32
def F1 (c : Dev nD) : Vec Ideal S_ .i32 := rE (rA1 (m ((c : Thread nD τ).loc main_arg3))) 0x3B124925#32
def F2 (c : Dev nD) : Vec Ideal S_ .i32 := rE (rA2 (m ((c : Thread nD τ).loc main_arg3))) 0x37924925#32

/-- The three arrays of codes. -/
def gX (c : Dev nD) : SX.Idx → EReal := fun i => q4 (zX m c i) (rP (negi (F0 m c)) ix0)
def gW (c : Dev nD) : SW.Idx → EReal := fun i => q4 (zW m c i) (rP (negi (F1 m c)) ix0)
def gD (c : Dev nD) : SY.Idx → EReal := fun i => q5 (zD m c i) (rP (negi (F2 m c)) ix0)

/-- The three products' scales. -/
def tY (c : Dev nD) : EReal := rP (F0 m c) ix0 * rP (F1 m c) ix0
def tDX (c : Dev nD) : EReal := rP (F2 m c) ix0 * rP (F1 m c) ix0
def tDW (c : Dev nD) : EReal := rP (F2 m c) ix0 * rP (F0 m c) ix0

/-- The only entry of a one-by-one array holding a single value. -/
theorem cell_cast (a : Vec Ideal S_ .f32) : cell (shapeCast S1x1 a shapeCasts_S_S1x1) = a ix0 := by
  unfold cell
  exact congrArg a (Subsingleton.elim _ _)

theorem cell0 (c : Dev nD) : cell (VR m c main_v108) = rP (negi (F0 m c)) ix0 := by
  unfold VR F0
  exact (congrArg cell (r108 m c)).trans ((cell_cast _).trans (by rw [x22]))
theorem cell1 (c : Dev nD) : cell (VR m c main_v109) = rP (negi (F1 m c)) ix0 := by
  unfold VR F1
  exact (congrArg cell (r109 m c)).trans ((cell_cast _).trans (by rw [x58]))
theorem cell2 (c : Dev nD) : cell (VR m c main_v110) = rP (negi (F2 m c)) ix0 := by
  unfold VR F2
  exact (congrArg cell (r110 m c)).trans ((cell_cast _).trans (by rw [x94]))
theorem cell3 (c : Dev nD) : cell (VR m c main_v112) = tY m c := by
  unfold VR tY F0 F1
  exact (congrArg cell (r112 m c)).trans ((cell_cast _).trans (by rw [x22, x58]; rfl))
theorem cell4 (c : Dev nD) : cell (VR m c main_v114) = tDX m c := by
  unfold VR tDX F2 F1
  exact (congrArg cell (r114 m c)).trans ((cell_cast _).trans (by rw [x94, x58]; rfl))
theorem cell5 (c : Dev nD) : cell (VR m c main_v116) = tDW m c := by
  unfold VR tDW F2 F0
  exact (congrArg cell (r116 m c)).trans ((cell_cast _).trans (by rw [x94, x22]; rfl))
theorem vx (c : Dev nD) : VR m c main_v117 = zX m c := by
  unfold VR
  exact r117 m c
theorem vd (c : Dev nD) : VR m c main_v118 = zD m c := by
  unfold VR
  exact r118 m c
theorem vw (c : Dev nD) : VR m c main_arg1 = zW m c := by
  unfold VR
  exact rarg1 m c

theorem xcR_eq (c : Dev nD) : xcR m c = gX m c := by
  funext i
  exact congrArg₂ q4 (congrFun (vx m c) i) (cell0 m c)
theorem wcR_eq (c : Dev nD) : wcR m c = gW m c := by
  funext i
  exact congrArg₂ q4 (congrFun (vw m c) i) (cell1 m c)
theorem dcR_eq (c : Dev nD) : dcR m c = gD m c := by
  funext i
  exact congrArg₂ q5 (congrFun (vd m c) i) (cell2 m c)

/-- What the operations after the region start from. -/
def WR (c : Dev nD) : Valuation τ sig (Elt Ideal) :=
  Pipeline.withArrays (cfgs 0).spec c (V0 m c) fun w => (dats m 0 c).arrAt w (cfgs 0).N

theorem WR_of (c : Dev nD) (b : Ref sig .tc) (hb : ∀ w, Pipeline.arrRef spec0 w ≠ b) : WR m c b = V0 m c b :=
  Pipeline.withArrays_of_ne _ c (V0 m c) _ b hb

theorem WR_arr (c : Dev nD) (w : Fin (cfgs 0).W) : WR m c (Pipeline.arrRef spec0 w) = (dats m 0 c).arrAt w (cfgs 0).N :=
  Pipeline.withArrays_arr _ (by decide +kernel) c (V0 m c) _ w

theorem wr_y (c : Dev nD) : WR m c main_v119_0 = yArr (gX m c) (gW m c) (tY m c) := by
  refine (WR_arr m c 9).trans ((y_arr m c).trans ?_)
  rw [xcR_eq, wcR_eq]
  exact congrArg _ (cell3 m c)
theorem wr_dx (c : Dev nD) : WR m c main_v119_1 = dxArr (gD m c) (gW m c) (tDX m c) := by
  refine (WR_arr m c 10).trans ((dx_arr m c).trans ?_)
  rw [dcR_eq, wcR_eq]
  exact congrArg _ (cell4 m c)
theorem out_dw (c : Dev nD) : (dats m 0 c).arrAt 11 cfg0.N = dwArr (gD m c) (gX m c) (tDW m c) := by
  refine (dw_arr m c).trans ?_
  rw [dcR_eq, xcR_eq]
  exact congrArg _ (cell5 m c)
theorem out_wc (c : Dev nD) : (dats m 0 c).arrAt 13 cfg0.N = gW m c := (wc_arr m c).trans (wcR_eq m c)
theorem wr_xc (c : Dev nD) : WR m c main_v119_3 = gX m c := (WR_arr m c 12).trans ((xc_arr m c).trans (xcR_eq m c))
theorem wr_dc (c : Dev nD) : WR m c main_v119_5 = gD m c := (WR_arr m c 14).trans ((dc_arr m c).trans (dcR_eq m c))
theorem wr_arg0 (c : Dev nD) : WR m c main_arg0 = m ((c : Thread nD τ).loc main_arg0) := (WR_of m c main_arg0 (by decide)).trans (V_main_arg0 m c)
theorem wr_arg1 (c : Dev nD) : WR m c main_arg1 = m ((c : Thread nD τ).loc main_arg1) := (WR_arr m c 7).trans (((dats m 0 c).arrAt_in 7 rfl _).trans (V_main_arg1 m c))
theorem wr_arg2 (c : Dev nD) : WR m c main_arg2 = m ((c : Thread nD τ).loc main_arg2) := (WR_of m c main_arg2 (by decide)).trans (V_main_arg2 m c)
theorem wr_arg3 (c : Dev nD) : WR m c main_arg3 = m ((c : Thread nD τ).loc main_arg3) := (WR_of m c main_arg3 (by decide)).trans (V_main_arg3 m c)

/-! ## The operations after the region -/

theorem u136 (U : Valuation τ sig (Elt Ideal)) : StableHlo.after hostOps1 U main_v136 = shapeCast S4x1024x14848 (U main_v119_0 : S4096x14848.Idx → EReal) shapeCasts_S4096x14848_S4x1024x14848 := by
  after_reads_simp
  rfl
theorem u137 (U : Valuation τ sig (Elt Ideal)) : StableHlo.after hostOps1 U main_v137 = shapeCast S4x1024x5760 (U main_v119_1 : S4096x5760.Idx → EReal) shapeCasts_S4096x5760_S4x1024x5760 := by
  after_reads_simp
  rfl
theorem u138 (U : Valuation τ sig (Elt Ideal)) : StableHlo.after hostOps1 U main_v138 = shapeCast S4x1024x5760 (U main_v119_3 : S4096x5760.Idx → EReal) shapeCasts_S4096x5760_S4x1024x5760 := by
  after_reads_simp
  rfl
theorem u139 (U : Valuation τ sig (Elt Ideal)) : StableHlo.after hostOps1 U main_v139 = shapeCast S4x1024x14848 (U main_v119_5 : S4096x14848.Idx → EReal) shapeCasts_S4096x14848_S4x1024x14848 := by
  after_reads_simp
  rfl
theorem u28 (U : Valuation τ sig (Elt Ideal)) : StableHlo.after hostOps1 U main_v28 = U main_v28 := by
  after_reads_simp
theorem u64 (U : Valuation τ sig (Elt Ideal)) : StableHlo.after hostOps1 U main_v64 = U main_v64 := by
  after_reads_simp
theorem u100 (U : Valuation τ sig (Elt Ideal)) : StableHlo.after hostOps1 U main_v100 = U main_v100 := by
  after_reads_simp

/-- The largest magnitude in each of the three operands. -/
def mag0 (X : FVec Ideal S4x1024x5760 .bf16) : FVec Ideal S_ .bf16 := Host.reduce (FloatOps.maximumf (F := Ideal) (φ := .bf16)) (Host.absf X) (constant (F := Ideal) S_ .bf16 0xFF80#16) reducesTo_S4x1024x5760_S_d0_1_2 h_S_
def mag1 (X : FVec Ideal S14848x5760 .bf16) : FVec Ideal S_ .bf16 := Host.reduce (FloatOps.maximumf (F := Ideal) (φ := .bf16)) (Host.absf X) (constant (F := Ideal) S_ .bf16 0xFF80#16) reducesTo_S14848x5760_S_d0_1 h_S_
def mag2 (X : FVec Ideal S4x1024x14848 .bf16) : FVec Ideal S_ .bf16 := Host.reduce (FloatOps.maximumf (F := Ideal) (φ := .bf16)) (Host.absf X) (constant (F := Ideal) S_ .bf16 0xFF80#16) reducesTo_S4x1024x14848_S_d0_1_2 h_S_
/-- Three single entries stacked. -/
def rcat3 (a b d : FVec Ideal S1 .f32) : FVec Ideal S3 .f32 := concatenate S3 0 [⟨S1, a⟩, ⟨S1, b⟩, ⟨S1, d⟩] concatenates_S1_S1_S1_S3_d0
/-- The history with a column of new maxima before it, its last column dropped. -/
def rhist (a b d : FVec Ideal S_ .bf16) (h : FVec Ideal S3x16 .f32) : FVec Ideal S3x16 .f32 :=
  concatenate S3x16 1 [⟨S3x1, broadcastInDim S3x1 ![0] bcast_S3_S3x1_0 (rcat3 (broadcastInDim S1 ![] bcast_S_S1 (extf (F := Ideal) .f32 a bitsLt_bf16_f32)) (broadcastInDim S1 ![] bcast_S_S1 (extf (F := Ideal) .f32 b bitsLt_bf16_f32)) (broadcastInDim S1 ![] bcast_S_S1 (extf (F := Ideal) .f32 d bitsLt_bf16_f32)))⟩,
    ⟨S3x15, extractStridedSlice S3x15 ![0, 0] h slices_S3x16_S3x15_0_0⟩] concatenates_S3x1_S3x15_S3x16_d1

theorem rcat3_of (a a' b b' d d' : FVec Ideal S1 .f32) (ha : a = a') (hb : b = b') (hd : d = d') : rcat3 a b d = rcat3 a' b' d' := by
  rw [ha, hb, hd]

theorem u132 (U : Valuation τ sig (Elt Ideal)) : StableHlo.after hostOps1 U main_v132 = rcat3 (broadcastInDim S1 ![] bcast_S_S1 (extf (F := Ideal) .f32 (mag0 (U main_arg0)) bitsLt_bf16_f32)) (broadcastInDim S1 ![] bcast_S_S1 (extf (F := Ideal) .f32 (mag1 (U main_arg1)) bitsLt_bf16_f32))
    (broadcastInDim S1 ![] bcast_S_S1 (extf (F := Ideal) .f32 (mag2 (U main_arg2)) bitsLt_bf16_f32)) := by
  after_reads_simp
  refine Eq.trans (b := rcat3 (StableHlo.upto hostOps1 U 15 main_v129) (StableHlo.upto hostOps1 U 15 main_v130) (StableHlo.upto hostOps1 U 15 main_v131)) rfl ?_
  refine rcat3_of _ _ _ _ _ _ ?_ ?_ ?_
  · after_reads_simp
    rfl
  · after_reads_simp
    rfl
  · after_reads_simp
    rfl

theorem rcat2_of (a a' : FVec Ideal S3x1 .f32) (b b' : FVec Ideal S3x15 .f32) (ha : a = a') (hb : b = b') :
    concatenate S3x16 1 [⟨S3x1, a⟩, ⟨S3x15, b⟩] concatenates_S3x1_S3x15_S3x16_d1 = concatenate S3x16 1 [⟨S3x1, a'⟩, ⟨S3x15, b'⟩] concatenates_S3x1_S3x15_S3x16_d1 := by
  subst ha hb
  rfl

theorem u135' (U : Valuation τ sig (Elt Ideal)) : StableHlo.after hostOps1 U main_v135 = concatenate S3x16 1 [⟨S3x1, (StableHlo.after hostOps1 U main_v133 : FVec Ideal S3x1 .f32)⟩, ⟨S3x15, (StableHlo.after hostOps1 U main_v134 : FVec Ideal S3x15 .f32)⟩] concatenates_S3x1_S3x15_S3x16_d1 := by
  after_reads_simp
  refine rcat2_of _ _ _ _ ?_ ?_ <;> after_reads_simp
theorem u133' (U : Valuation τ sig (Elt Ideal)) : StableHlo.after hostOps1 U main_v133 = broadcastInDim S3x1 ![0] bcast_S3_S3x1_0 (StableHlo.after hostOps1 U main_v132 : FVec Ideal S3 .f32) := by
  after_reads_simp
theorem u134' (U : Valuation τ sig (Elt Ideal)) : StableHlo.after hostOps1 U main_v134 = extractStridedSlice S3x15 ![0, 0] (U main_arg3 : FVec Ideal S3x16 .f32) slices_S3x16_S3x15_0_0 := by
  after_reads_simp
theorem u135 (U : Valuation τ sig (Elt Ideal)) : StableHlo.after hostOps1 U main_v135 = rhist (mag0 (U main_arg0)) (mag1 (U main_arg1)) (mag2 (U main_arg2)) (U main_arg3) := by
  rw [u135', u133', u134', u132]
  rfl

/-- The end of the run at a buffer no window stages. -/
def WT (c : Dev nD) (b : Ref sig .tc) : Buf (Elt Ideal) ((c : Thread nD τ).loc b) := Pipeline.afterTail₀ cfgs (dats m) 0 (V0 m) [hostOps1] c b

theorem WT_eq (c : Dev nD) (b : Ref sig .tc) : WT m c b = StableHlo.after hostOps1 (WR m c) b := by
  unfold WT Pipeline.afterTail₀
  rw [List.flatten_cons, List.flatten_nil, List.append_nil]
  rfl

theorem wt_136 (c : Dev nD) : WT m c main_v136 = shapeCast S4x1024x14848 (yArr (gX m c) (gW m c) (tY m c)) shapeCasts_S4096x14848_S4x1024x14848 :=
  (WT_eq m c _).trans ((u136 _).trans (congrArg (fun a => shapeCast S4x1024x14848 a _) (wr_y m c)))
theorem wt_137 (c : Dev nD) : WT m c main_v137 = shapeCast S4x1024x5760 (dxArr (gD m c) (gW m c) (tDX m c)) shapeCasts_S4096x5760_S4x1024x5760 :=
  (WT_eq m c _).trans ((u137 _).trans (congrArg (fun a => shapeCast S4x1024x5760 a _) (wr_dx m c)))
theorem wt_138 (c : Dev nD) : WT m c main_v138 = shapeCast S4x1024x5760 (gX m c) shapeCasts_S4096x5760_S4x1024x5760 :=
  (WT_eq m c _).trans ((u138 _).trans (congrArg (fun a => shapeCast S4x1024x5760 a _) (wr_xc m c)))
theorem wt_139 (c : Dev nD) : WT m c main_v139 = shapeCast S4x1024x14848 (gD m c) shapeCasts_S4096x14848_S4x1024x14848 :=
  (WT_eq m c _).trans ((u139 _).trans (congrArg (fun a => shapeCast S4x1024x14848 a _) (wr_dc m c)))
theorem wt_28 (c : Dev nD) : WT m c main_v28 = rP (F0 m c) :=
  (WT_eq m c _).trans ((u28 _).trans ((WR_of m c main_v28 (by decide)).trans ((r28 m c).trans (congrArg rP (x22 m c)))))
theorem wt_64 (c : Dev nD) : WT m c main_v64 = rP (F1 m c) :=
  (WT_eq m c _).trans ((u64 _).trans ((WR_of m c main_v64 (by decide)).trans ((r64 m c).trans (congrArg rP (x58 m c)))))
theorem wt_100 (c : Dev nD) : WT m c main_v100 = rP (F2 m c) :=
  (WT_eq m c _).trans ((u100 _).trans ((WR_of m c main_v100 (by decide)).trans ((r100 m c).trans (congrArg rP (x94 m c)))))
theorem wt_135 (c : Dev nD) : WT m c main_v135 = rhist (mag0 (m ((c : Thread nD τ).loc main_arg0))) (mag1 (m ((c : Thread nD τ).loc main_arg1))) (mag2 (m ((c : Thread nD τ).loc main_arg2))) (m ((c : Thread nD τ).loc main_arg3)) := by
  refine (WT_eq m c _).trans ((u135 _).trans ?_)
  rw [wr_arg0, wr_arg1, wr_arg2, wr_arg3]

end Cert.ReferenceIdeal.Gen
-- ==== Proof.V.REnd.lean ====
/-
  What the reference's run leaves in each of its results.
-/
module

public import proofs.«01_k».proof.Proof.V.RVals

@[expose] public section

set_option maxRecDepth 16384

noncomputable section

namespace Cert.ReferenceIdeal.Gen

open Idealize.ShloMosaic Idealize.ShloMosaic.TcCoe Idealize.SL.Sem
open Cert.Spec

variable (m : (ℓ : Loc nD τ sig) → Buf (Elt Ideal) ℓ) (ρ : Dev nD → PrngReg)

/-- The run of the reference, each result at its value and each argument as launched. -/
theorem values : θ_run defs (onTc (τ := τ) (main (F := Ideal))) ⟨m, fun _ => 0, ρ⟩ (fun r => ∀ c : Dev nD,
      r.2.mem ((c.tc : Thread nD τ).loc main_v136) = shapeCast S4x1024x14848 (yArr (gX m c) (gW m c) (tY m c)) shapeCasts_S4096x14848_S4x1024x14848
      ∧ r.2.mem ((c.tc : Thread nD τ).loc main_v137) = shapeCast S4x1024x5760 (dxArr (gD m c) (gW m c) (tDX m c)) shapeCasts_S4096x5760_S4x1024x5760
      ∧ r.2.mem ((c.tc : Thread nD τ).loc main_v119_2) = dwArr (gD m c) (gX m c) (tDW m c)
      ∧ r.2.mem ((c.tc : Thread nD τ).loc main_v138) = shapeCast S4x1024x5760 (gX m c) shapeCasts_S4096x5760_S4x1024x5760
      ∧ r.2.mem ((c.tc : Thread nD τ).loc main_v28) = rP (F0 m c)
      ∧ r.2.mem ((c.tc : Thread nD τ).loc main_v119_4) = gW m c
      ∧ r.2.mem ((c.tc : Thread nD τ).loc main_v64) = rP (F1 m c)
      ∧ r.2.mem ((c.tc : Thread nD τ).loc main_v139) = shapeCast S4x1024x14848 (gD m c) shapeCasts_S4096x14848_S4x1024x14848
      ∧ r.2.mem ((c.tc : Thread nD τ).loc main_v100) = rP (F2 m c)
      ∧ r.2.mem ((c.tc : Thread nD τ).loc main_v135) = rhist (mag0 (m ((c : Thread nD τ).loc main_arg0))) (mag1 (m ((c : Thread nD τ).loc main_arg1))) (mag2 (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have at_ : ∀ b : Ref sig .tc, b ∈ Pipeline.restRefs sig (cfgs 0).spec → r.2.mem ((c.tc : Thread nD τ).loc b) = WT m c b :=
      fun b hb => (h.1 c).2 b hb
    exact ⟨(at_ main_v136 (Pipeline.mem_restRefs_of main_v136 (by decide) (by decide))).trans (wt_136 m c),
      (at_ main_v137 (Pipeline.mem_restRefs_of main_v137 (by decide) (by decide))).trans (wt_137 m c),
      ((h.1 c).1 11).trans (out_dw m c),
      (at_ main_v138 (Pipeline.mem_restRefs_of main_v138 (by decide) (by decide))).trans (wt_138 m c),
      (at_ main_v28 (Pipeline.mem_restRefs_of main_v28 (by decide) (by decide))).trans (wt_28 m c),
      ((h.1 c).1 13).trans (out_wc m c),
      (at_ main_v64 (Pipeline.mem_restRefs_of main_v64 (by decide) (by decide))).trans (wt_64 m c),
      (at_ main_v139 (Pipeline.mem_restRefs_of main_v139 (by decide) (by decide))).trans (wt_139 m c),
      (at_ main_v100 (Pipeline.mem_restRefs_of main_v100 (by decide) (by decide))).trans (wt_100 m c),
      (at_ main_v135 (Pipeline.mem_restRefs_of main_v135 (by decide) (by decide))).trans (wt_135 m c),
      h.2 c⟩) (θ_run_and (run_main m ρ) (unchanged m ρ))

end Cert.ReferenceIdeal.Gen
-- ==== Proof.V.Pow.lean ====
/-
  The powers of two of the float32 exponent field, and the two ways of finding a number's exponent among them.
-/
module

public import proofs.«01_k».proof.Proof.V.Spec
public import Idealize.ShloMosaic.Lib.SortNet.Extract
public import Idealize.ShloMosaic.Lib.Pipeline.ValueKit

@[expose] public section

set_option maxRecDepth 16384

noncomputable section

namespace Cert.Spec

open Idealize.ShloMosaic

/-- The number whose float32 pattern has exponent field `j` and nothing else. -/
def pw (j : ℕ) : EReal := Ideal.ofBits .f32 (BitVec.ofNat 32 j <<< 23)

theorem pw_fields : ∀ j : Fin 256, (BitVec.ofNat 32 j.val <<< 23).extractLsb' 31 1 = 0#1 ∧ ((BitVec.ofNat 32 j.val <<< 23).extractLsb' 23 8).toNat = j.val
    ∧ ((BitVec.ofNat 32 j.val <<< 23).extractLsb' 0 23).toNat = 0 := by decide +kernel

theorem pw_zero : pw 0 = 0 := by
  unfold pw
  simp [Ideal.ofBits, Ideal.ieee]

theorem pw_top : pw 255 = ⊤ := by
  obtain ⟨h1, h2, h3⟩ := pw_fields ⟨255, by decide⟩
  unfold pw
  simp [Ideal.ofBits, Ideal.ieee]

theorem pw_mid (j : ℕ) (h : 1 ≤ j) (h' : j ≤ 254) : pw j = (((2 : ℝ) ^ ((j : ℤ) - 127) : ℝ) : EReal) := by
  obtain ⟨h1, h2, h3⟩ := pw_fields ⟨j, by omega⟩
  dsimp only at h1 h2 h3
  have h4 : ¬ j = 255 := by omega
  have h5 : ¬ j = 0 := by omega
  unfold pw Ideal.ofBits Ideal.ieee
  simp only [h1, h2, h3]
  norm_num [h4, h5]
  have e : (2 : ℝ) ^ ((j : ℤ) - 127) = 8388608 * (2 : ℝ) ^ ((j : ℤ) - 127 - 23) := by
    rw [zpow_sub₀ (by norm_num : (2 : ℝ) ≠ 0) ((j : ℤ) - 127) 23]
    norm_num
    ring
  rw [e, EReal.coe_mul]

theorem two : Ideal.ofBits .f32 0x40000000#32 = ((2 : ℝ) : EReal) := by
  simp [Ideal.ofBits, Ideal.ieee]
  rw [← EReal.coe_mul]
  norm_num

theorem pow_two (z : ℤ) : Ideal.pow (Ideal.ofBits .f32 0x40000000#32) (((z : ℝ)) : EReal) = (((2 : ℝ) ^ z : ℝ) : EReal) := by
  rw [two]
  show ((Real.rpow 2 (z : ℝ) : ℝ) : EReal) = _
  exact congrArg _ (Real.rpow_intCast 2 z)

theorem pw_le (i j : ℕ) (h : i ≤ j) (h0 : 1 ≤ i) (h' : j ≤ 255) : pw i ≤ pw j := by
  rcases Nat.lt_or_ge j 255 with hj | hj
  · rw [pw_mid i h0 (by omega), pw_mid j (by omega) (by omega)]
    exact EReal.coe_le_coe_iff.2 (zpow_le_zpow_right₀ (by norm_num) (by omega))
  · have : j = 255 := by omega
    rw [this, pw_top]
    exact le_top

/-- The powers at most `v` are the first `N`. -/
theorem cut (v : EReal) : ∀ n, n ≤ 255 → ∃ N ≤ n, ∀ i < n, (pw (i + 1) ≤ v ↔ i < N) := by
  intro n
  induction n with
  | zero => intro _; exact ⟨0, le_refl _, fun i hi => absurd hi (Nat.not_lt_zero i)⟩
  | succ n ih =>
    intro hn
    obtain ⟨N, hN, h⟩ := ih (by omega)
    rcases Nat.lt_or_ge N n with hlt | hge
    · refine ⟨N, by omega, fun i hi => ?_⟩
      rcases Nat.lt_or_ge i n with hi' | hi'
      · exact h i hi'
      · have hin : i = n := by omega
        subst hin
        refine ⟨fun hle => ?_, fun hc => by omega⟩
        have := (h N hlt).1 ((pw_le _ _ (by omega) (by omega) (by omega)).trans hle)
        omega
    · by_cases hp : pw (n + 1) ≤ v
      · refine ⟨n + 1, le_refl _, fun i hi => ⟨fun _ => hi, fun _ => ?_⟩⟩
        exact (pw_le _ _ (by omega) (by omega) (by omega)).trans hp
      · refine ⟨n, by omega, fun i hi => ?_⟩
        rcases Nat.lt_or_ge i n with hi' | hi'
        · rw [h i hi']
          constructor <;> intro _ <;> omega
        · have hin : i = n := by omega
          subst hin
          exact ⟨fun hc => absurd hc hp, fun hc => by omega⟩

theorem fold_count (n N : ℕ) (hN : N ≤ n) (f : Fin n → BitVec 32) (h1 : ∀ i : Fin n, i.val < N → f i = 1#32) (h0 : ∀ i : Fin n, ¬ i.val < N → f i = 0#32) :
    (Finset.univ : Finset (Fin n)).fold IntOp.addi 0#32 f = BitVec.ofNat 32 N := by
  have key : ∀ s : Finset (Fin n), s.fold IntOp.addi 0#32 f = BitVec.ofNat 32 (s.filter fun i => i.val < N).card := by
    intro s
    induction s using Finset.induction with
    | empty => rfl
    | insert a s ha ih =>
      rw [Finset.fold_insert ha, ih, Finset.filter_insert]
      by_cases hc : a.val < N
      · rw [if_pos hc, Finset.card_insert_of_notMem (by simp [ha]), h1 a hc]
        show 1#32 + _ = _
        rw [Nat.add_comm, BitVec.ofNat_add]
      · rw [if_neg hc, h0 a hc]
        show 0#32 + _ = _
        rw [BitVec.zero_add]
  rw [key, Fin.card_filter_val_lt, Nat.min_eq_right hN]

theorem fold_maxsi (N : ℕ) (hN : N ≤ 254) (f : Fin 254 → BitVec 32) (h1 : ∀ i : Fin 254, i.val < N → (f i).toInt = (i.val : ℤ) - 125) (h0 : ∀ i : Fin 254, ¬ i.val < N → (f i).toInt = -126) :
    ((Finset.univ : Finset (Fin 254)).fold IntOp.maxsi 0x80000000#32 f).toInt = (N : ℤ) - 126 := by
  have hb : (0x80000000#32).toInt = -2147483648 := by decide
  rw [← Finset.fold_hom (op' := max) (m := BitVec.toInt) (fun x y => Idealize.ShloMosaic.SortNet.toInt_maxsi x y), hb]
  apply le_antisymm
  · rw [Finset.fold_max_le]
    refine ⟨by omega, fun i _ => ?_⟩
    by_cases hc : i.val < N
    · rw [h1 i hc]; omega
    · rw [h0 i hc]; omega
  · rw [Finset.le_fold_max]
    right
    by_cases hz : N = 0
    · exact ⟨⟨0, by decide⟩, Finset.mem_univ _, by rw [h0 _ (by simp [hz])]; omega⟩
    · exact ⟨⟨N - 1, by omega⟩, Finset.mem_univ _, by rw [h1 _ (by dsimp only; omega)]; dsimp only; omega⟩

/-- The clipped exponent field of an exponent between `-128` and `128`. -/
theorem field : ∀ k : Fin 257, IntOp.minsi 255#32 (IntOp.maxsi 0#32 (IntOp.addi (IntOp.minsi 512#32 (IntOp.maxsi 4294966784#32 (BitVec.ofInt 32 ((k.val : ℤ) - 128)))) 127#32)) = BitVec.ofNat 32 (k.val - 1) := by
  decide +kernel

end Cert.Spec
-- ==== Proof.V.Scale.lean ====
/-
  The kernel's and the reference's exponents are the same number, and so are the powers of two taken of it.
-/
module

public import proofs.«01_k».proof.Proof.V.Pow
public import proofs.«01_k».proof.Proof.V.KHost
public import proofs.«01_k».proof.Proof.V.RHost
public import Idealize.ShloMosaic.Lib.Pointwise
public import Idealize.ShloMosaic.Lib.Pipeline.ValueKit

@[expose] public section

set_option maxRecDepth 16384

noncomputable section

namespace Cert.Scale

open Idealize.ShloMosaic Idealize.ShloMosaic.TcCoe
open Cert.Spec
open Cert.KernelIdeal.Gen.H (kA0 kA1 kA2 kE kP kCount)
open Cert.ReferenceIdeal.Gen (rA0 rA1 rA2 rE rP rMax rV rK)

abbrev S0 : Shape := ⟨0, ![]⟩

theorem shl_eq : ∀ j : Fin 256, IntOp.shli ArithUnit.host (BitVec.ofNat 32 j.val) 23#32 = BitVec.ofNat 32 j.val <<< 23 := by decide +kernel
theorem shl_eq' : ∀ j : Fin 255, IntOp.shli ArithUnit.host (IntOp.addi (BitVec.ofNat 32 j.val) 1#32) 23#32 = BitVec.ofNat 32 (j.val + 1) <<< 23 := by decide +kernel

theorem bit_one (P : Prop) (d : Decidable P) (hp : P) : BitVec.setWidth 32 (BitVec.ofBool (@decide P d)) = 1#32 := by
  rw [@decide_eq_true P d hp]
  rfl

theorem bit_zero (P : Prop) (d : Decidable P) (hp : ¬ P) : BitVec.setWidth 32 (BitVec.ofBool (@decide P d)) = 0#32 := by
  rw [@decide_eq_false P d hp]
  rfl

theorem pw_shl (i : Fin 255) : Ideal.ofBits FTy.f32 (IntOp.shli ArithUnit.host (IntOp.addi (BitVec.ofNat 32 i.val) 1#32) 23#32) = pw (i.val + 1) := by
  rw [shl_eq' i]
  rfl

theorem count_eq (v : Vec Ideal S0 .f32) (N : ℕ) (hN : N ≤ 255) (h : ∀ i < 255, (pw (i + 1) ≤ mag (v ix0) ↔ i < N)) (y : S0.Idx) :
    kCount v y = BitVec.ofNat 32 N := by
  unfold kCount
  pointwise
  refine fold_count 255 N hN _ (fun i hi => bit_one _ _ ?_) (fun i hi => bit_zero _ _ ?_)
  · exact (pw_shl i).le.trans ((h i.val i.isLt).2 hi)
  · exact fun hc => hi ((h i.val i.isLt).1 ((pw_shl i).ge.trans hc))

theorem ks : ∀ i : Fin 254, (IntOp.subi (BitVec.ofNat 32 i.val) 126#32).toInt = (i.val : ℤ) - 126 ∧ (IntOp.addi (IntOp.subi (BitVec.ofNat 32 i.val) 126#32) 1#32).toInt = (i.val : ℤ) - 125 := by decide +kernel

theorem pow_k (i : Fin 254) : Ideal.pow (Ideal.ofBits FTy.f32 1073741824#32) (FloatOps.sitofp (F := Ideal) FTy.f32 (IntOp.subi (BitVec.ofNat 32 i.val) 126#32)) = pw (i.val + 1) := by
  refine (pow_two _).trans ?_
  rw [(ks i).1, pw_mid _ (by omega) (by omega)]
  congr 2
  push_cast
  ring

theorem max_eq (v : Vec Ideal S0 .f32) (N : ℕ) (hN : N ≤ 255) (h : ∀ i < 255, (pw (i + 1) ≤ v ix0 ↔ i < N)) (y : S0.Idx) :
    (rMax v y).toInt = ((min N 254 : ℕ) : ℤ) - 126 := by
  unfold rMax rK
  pointwise
  refine fold_maxsi (min N 254) (by omega) _ (fun i hi => ?_) (fun i hi => ?_)
  · rw [pow_k, if_pos ((h i.val (by omega)).2 (by omega))]
    exact (ks i).2
  · rw [pow_k, if_neg fun hc => hi (by have := (h i.val (by omega)).1 hc; omega)]
    decide

theorem core : ∀ N : Fin 256,
    Scalar.select (IntOp.ori (IntOp.cmpi CmpIPredicate.eq (BitVec.ofNat 32 N.val) 0#32) (IntOp.cmpi CmpIPredicate.eq (BitVec.ofNat 32 N.val) 255#32)) (0#32) (IntOp.subi (BitVec.ofNat 32 N.val) 126#32)
      = Scalar.select (IntOp.ori (IntOp.cmpi CmpIPredicate.eq (BitVec.ofInt 32 (((min N.val 254 : ℕ) : ℤ) - 126)) 4294967170#32) (BitVec.ofBool (decide (N.val = 255)))) (0#32) (BitVec.ofInt 32 (((min N.val 254 : ℕ) : ℤ) - 126)) := by
  decide +kernel

theorem bound : ∀ N : Fin 256,
    -126 ≤ (Scalar.select (IntOp.ori (IntOp.cmpi CmpIPredicate.eq (BitVec.ofNat 32 N.val) 0#32) (IntOp.cmpi CmpIPredicate.eq (BitVec.ofNat 32 N.val) 255#32)) (0#32) (IntOp.subi (BitVec.ofNat 32 N.val) 126#32)).toInt
    ∧ (Scalar.select (IntOp.ori (IntOp.cmpi CmpIPredicate.eq (BitVec.ofNat 32 N.val) 0#32) (IntOp.cmpi CmpIPredicate.eq (BitVec.ofNat 32 N.val) 255#32)) (0#32) (IntOp.subi (BitVec.ofNat 32 N.val) 126#32)).toInt ≤ 128 := by
  decide +kernel

theorem inf_eq : Ideal.ofBits FTy.f32 2139095040#32 = ⊤ := by
  simp [Ideal.ofBits, Ideal.ieee]

theorem toInt_small : ∀ N : Fin 256, (BitVec.ofInt 32 (((min N.val 254 : ℕ) : ℤ) - 126)).toInt = ((min N.val 254 : ℕ) : ℤ) - 126 := by decide +kernel

/-- The kernel's exponent of a row is the reference's. -/
theorem exp_eq (A : Vec Ideal S0 .f32) (cst : BitVec 32) : kE A cst = rE A cst ∧ ∀ y, -126 ≤ (kE A cst y : BitVec 32).toInt ∧ (kE A cst y : BitVec 32).toInt ≤ 128 := by
  obtain ⟨N, hN, h⟩ := cut (mag (A ix0 * Ideal.ofBits .f32 cst)) 255 (le_refl _)
  have hc : ∀ y, kCount (mulf (F := Ideal) (φ := .f32) A (constant (F := Ideal) S0 .f32 cst)) y = BitVec.ofNat 32 N := count_eq _ N hN h
  have hm : ∀ y, rMax (Host.absf (F := Ideal) (φ := .f32) (mulf (F := Ideal) (φ := .f32) A (constant (F := Ideal) S0 .f32 cst))) y = BitVec.ofInt 32 (((min N 254 : ℕ) : ℤ) - 126) := fun y =>
    BitVec.eq_of_toInt_eq ((max_eq _ N hN h y).trans (toInt_small ⟨N, by omega⟩).symm)
  have ht : mag (A ix0 * Ideal.ofBits .f32 cst) = ⊤ ↔ N = 255 := by
    have h254 := h 254 (by omega)
    rw [show 254 + 1 = 255 from rfl, pw_top, top_le_iff] at h254
    rw [h254]
    omega
  have hk : ∀ y, kE A cst y = if A y = 0 then 0#32 else Scalar.select (IntOp.ori (IntOp.cmpi CmpIPredicate.eq (BitVec.ofNat 32 N) 0#32) (IntOp.cmpi CmpIPredicate.eq (BitVec.ofNat 32 N) 255#32)) (0#32) (IntOp.subi (BitVec.ofNat 32 N) 126#32) := by
    intro y
    unfold kE
    pointwise
    rw [hc y]
  refine ⟨funext fun y => ?_, fun y => ?_⟩
  · rw [hk y]
    unfold rE rV
    pointwise
    rw [hm y, core ⟨N, by omega⟩]
    have hy : y = ix0 := funext fun a => a.elim0
    subst hy
    have hb : decide (FloatOps.absf (F := Ideal) (φ := .f32) (A ix0 * Ideal.ofBits FTy.f32 cst) = Ideal.ofBits FTy.f32 2139095040#32) = decide (N = 255) := by
      rw [inf_eq]
      exact decide_eq_decide.2 ht
    rw [hb]
  · rw [hk y]
    by_cases hz : A y = 0
    · rw [if_pos hz]
      decide
    · rw [if_neg hz]
      exact bound ⟨N, by omega⟩

theorem small : ∀ k : Fin 257, IntOp.cmpi CmpIPredicate.sgt (BitVec.ofInt 32 ((k.val : ℤ) - 128)) 127#32 = BitVec.ofBool (decide (k.val = 256))
    ∧ IntOp.cmpi CmpIPredicate.slt (BitVec.ofInt 32 ((k.val : ℤ) - 128)) 4294967170#32 = BitVec.ofBool (decide (k.val ≤ 1))
    ∧ (BitVec.ofInt 32 ((k.val : ℤ) - 128)).toInt = (k.val : ℤ) - 128 := by decide +kernel

/-- The kernel's power of two of a small exponent is the reference's. -/
theorem pow_eq (E : Vec Ideal S0 .i32) (hE : ∀ y, -128 ≤ (E y : BitVec 32).toInt ∧ (E y : BitVec 32).toInt ≤ 128) : kP E = rP E := by
  funext y
  obtain ⟨h1, h2⟩ := hE y
  obtain ⟨k, hk⟩ : ∃ k : Fin 257, (E y : BitVec 32) = BitVec.ofInt 32 ((k.val : ℤ) - 128) := by
    refine ⟨⟨((E y : BitVec 32).toInt + 128).toNat, by omega⟩, ?_⟩
    have e : (((((E y : BitVec 32).toInt + 128).toNat : ℕ) : ℤ) - 128) = (E y : BitVec 32).toInt := by omega
    dsimp only
    rw [e, BitVec.ofInt_toInt]
  obtain ⟨s1, s2, s3⟩ := small k
  unfold kP rP
  pointwise
  rw [hk, field k, shl_eq ⟨k.val - 1, by omega⟩, s1, s2]
  show pw (k.val - 1) = _
  by_cases c1 : k.val = 256
  · rw [decide_eq_true c1, c1, inf_eq]
    exact pw_top
  · rw [decide_eq_false c1]
    by_cases c2 : k.val ≤ 1
    · rw [decide_eq_true c2, show k.val - 1 = 0 by omega, pw_zero]
      rfl
    · rw [decide_eq_false c2, pw_mid _ (by omega) (by omega)]
      refine Eq.trans ?_ (pow_two _).symm
      rw [s3]
      congr 2
      omega

/-- The exponent with its sign turned is small as well. -/
theorem neg_small (E : BitVec 32) (h1 : -126 ≤ E.toInt) (h2 : E.toInt ≤ 128) : -128 ≤ (-E).toInt ∧ (-E).toInt ≤ 128 := by
  have e : (-E).toInt = -E.toInt := by
    rw [BitVec.toInt_neg]
    rw [Int.bmod_def]
    omega
  omega

/-- Both powers of two of a row's exponent agree. -/
theorem pow_exp (A : Vec Ideal S0 .f32) (cst : BitVec 32) : kP (kE A cst) = rP (rE A cst) ∧ kP (negi (kE A cst)) = rP (negi (rE A cst)) := by
  obtain ⟨he, hb⟩ := exp_eq A cst
  rw [← he]
  exact ⟨pow_eq _ fun y => ⟨by have := (hb y).1; omega, (hb y).2⟩, pow_eq _ fun y => neg_small _ (hb y).1 (hb y).2⟩

end Cert.Scale
-- ==== Proof.V.Equal.lean ====
/-
  The kernel's results and the reference's are the same arrays when their arguments are.
-/
module

public import proofs.«01_k».proof.Proof.V.Scale
public import proofs.«01_k».proof.Proof.V.KVals
public import proofs.«01_k».proof.Proof.V.RVals

@[expose] public section

set_option maxRecDepth 16384

noncomputable section

namespace Cert.Equal

open Idealize.ShloMosaic Idealize.ShloMosaic.TcCoe
open Cert.Spec
open Cert.KernelIdeal.Gen.H (kX kD kW E0 E1 E2 cX cW cD sY sDX sDW kP red5760 red256 hist amaxArr0 amaxArr8 amaxArr9 E37 E38 negInf_bf16)
open Cert.ReferenceIdeal.Gen (zX zD zW F0 F1 F2 gX gW gD tY tDX tDW rP mag0 mag1 mag2 rhist)

/-- The maximum over a whole array is at most `b` when every entry is. -/
theorem red_le {s : Shape} {axes : List (Fin s.rank)} {u : Shape} (X : s.Idx → EReal) (h : s.ReducesTo axes ⟨0, ![]⟩) (hu : 0 < u.numel)
    (j : (⟨0, ![]⟩ : Shape).Idx) (b : EReal) :
    Host.reduce (FloatOps.maximumf (F := Ideal) (φ := .bf16)) X (constant (F := Ideal) u .bf16 0xFF80#16) h hu j ≤ b ↔ ∀ i, X i ≤ b := by
  have e : Host.reduce (FloatOps.maximumf (F := Ideal) (φ := .bf16)) X (constant (F := Ideal) u .bf16 0xFF80#16) h hu j
      = Finset.univ.fold max (Ideal.ofBits .bf16 0xFF80#16) X := by
    refine (Host.reduce_eq_fold (max : EReal → EReal → EReal) X _ h hu j).trans ?_
    rw [Finset.filter_true_of_mem fun i _ => funext fun a => a.elim0]
    rfl
  rw [e, Finset.fold_max_le, negInf_bf16]
  simp

theorem mag_nonneg (x : EReal) : 0 ≤ mag x := by
  unfold mag
  rcases le_total 0 x with h | h
  · exact le_max_of_le_left h
  · exact le_max_of_le_right (EReal.neg_nonneg.2 h)

/-- A statement about every entry of a reshaped array is one about every entry of the array. -/
theorem forall_cast {s t : Shape} (a : s.Idx → EReal) (h : s.ShapeCasts t) (P : EReal → Prop) : (∀ i, P (shapeCast t a h i)) ↔ ∀ i, P (a i) := by
  constructor
  · intro H i
    have := H ((Shape.reshapeEquiv h).symm i)
    unfold shapeCast at this
    rwa [Equiv.apply_symm_apply] at this
  · intro H i
    exact H _

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments on a core. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable (c : Dev Cert.KernelIdeal.nD) (h : Agree m m' c)
include h

theorem x_eq : zX m' c = kX m c := by
  unfold zX kX
  rw [h.1]
theorem w_eq : zW m' c = kW m c := h.2.1
theorem d_eq : zD m' c = kD m c := by
  unfold zD kD
  rw [h.2.2.1]

theorem p0 : rP (F0 m' c) = kP (E0 m c) := by
  refine Eq.trans ?_ (Cert.Scale.pow_exp _ _).1.symm
  exact congrArg (fun a => rP (Cert.ReferenceIdeal.Gen.rE (Cert.ReferenceIdeal.Gen.rA0 a) _)) h.2.2.2
theorem p1 : rP (F1 m' c) = kP (E1 m c) := by
  refine Eq.trans ?_ (Cert.Scale.pow_exp _ _).1.symm
  exact congrArg (fun a => rP (Cert.ReferenceIdeal.Gen.rE (Cert.ReferenceIdeal.Gen.rA1 a) _)) h.2.2.2
theorem p2 : rP (F2 m' c) = kP (E2 m c) := by
  refine Eq.trans ?_ (Cert.Scale.pow_exp _ _).1.symm
  exact congrArg (fun a => rP (Cert.ReferenceIdeal.Gen.rE (Cert.ReferenceIdeal.Gen.rA2 a) _)) h.2.2.2
theorem n0 : rP (negi (F0 m' c)) = kP (negi (E0 m c)) := by
  refine Eq.trans ?_ (Cert.Scale.pow_exp _ _).2.symm
  exact congrArg (fun a => rP (negi (Cert.ReferenceIdeal.Gen.rE (Cert.ReferenceIdeal.Gen.rA0 a) _))) h.2.2.2
theorem n1 : rP (negi (F1 m' c)) = kP (negi (E1 m c)) := by
  refine Eq.trans ?_ (Cert.Scale.pow_exp _ _).2.symm
  exact congrArg (fun a => rP (negi (Cert.ReferenceIdeal.Gen.rE (Cert.ReferenceIdeal.Gen.rA1 a) _))) h.2.2.2
theorem n2 : rP (negi (F2 m' c)) = kP (negi (E2 m c)) := by
  refine Eq.trans ?_ (Cert.Scale.pow_exp _ _).2.symm
  exact congrArg (fun a => rP (negi (Cert.ReferenceIdeal.Gen.rE (Cert.ReferenceIdeal.Gen.rA2 a) _))) h.2.2.2

theorem gX_eq : gX m' c = cX m c := by
  unfold gX cX
  rw [x_eq m m' c h, n0 m m' c h]
theorem gW_eq : gW m' c = cW m c := by
  unfold gW cW
  rw [w_eq m m' c h, n1 m m' c h]
theorem gD_eq : gD m' c = cD m c := by
  unfold gD cD
  rw [d_eq m m' c h, n2 m m' c h]
theorem tY_eq : tY m' c = sY m c := by
  unfold tY sY
  rw [p0 m m' c h, p1 m m' c h]
theorem tDX_eq : tDX m' c = sDX m c := by
  unfold tDX sDX
  rw [p2 m m' c h, p1 m m' c h]
theorem tDW_eq : tDW m' c = sDW m c := by
  unfold tDW sDW
  rw [p2 m m' c h, p0 m m' c h]

omit h

/-- A number that is the least above every magnitude of an array is the array's largest magnitude. -/
theorem mag_le {s : Shape} (X : s.Idx → EReal) (i0 : s.Idx) (b : EReal) : (0 ≤ b ∧ ∀ i, mag (X i) ≤ b) ↔ ∀ i, mag (X i) ≤ b :=
  ⟨fun p => p.2, fun p => ⟨(mag_nonneg _).trans (p i0), p⟩⟩

theorem scalar_ext (a b : (⟨0, ![]⟩ : Shape).Idx → EReal) (H : ∀ j z, a j ≤ z ↔ b j ≤ z) : a = b :=
  funext fun j => eq_of_forall_ge_iff (H j)

include h

theorem amax0 : mag0 (m' ((c.tc : Thread Cert.ReferenceIdeal.nD Cert.ReferenceIdeal.τ).loc Cert.ReferenceIdeal.main_arg0)) = red5760 (amaxArr0 (E37 m) c) := by
  refine scalar_ext _ _ fun j z => ?_
  refine Iff.trans (red_le (fun i => mag (m' ((c.tc : Thread Cert.ReferenceIdeal.nD Cert.ReferenceIdeal.τ).loc Cert.ReferenceIdeal.main_arg0) i)) _ _ j z) ?_
  refine Iff.trans ?_ (red_le (amaxArr0 (E37 m) c) _ _ j z).symm
  refine Iff.trans ?_ (Cert.KernelIdeal.Gen.H.amaxArr0_le (E37 m) c z).symm
  refine Iff.trans ?_ (mag_le _ (ix2 0 0) z).symm
  rw [h.1]
  have e : (E37 m c (Pipeline.arrRef Cert.KernelIdeal.spec0 1) : SX.Idx → EReal) = kX m c := Cert.KernelIdeal.Gen.H.k0 m c
  rw [e]
  exact (forall_cast _ _ fun x => mag x ≤ z).symm
theorem amax1 : mag1 (m' ((c.tc : Thread Cert.ReferenceIdeal.nD Cert.ReferenceIdeal.τ).loc Cert.ReferenceIdeal.main_arg1)) = red5760 (amaxArr8 (E38 m) c) := by
  refine scalar_ext _ _ fun j z => ?_
  refine Iff.trans (red_le (fun i => mag (m' ((c.tc : Thread Cert.ReferenceIdeal.nD Cert.ReferenceIdeal.τ).loc Cert.ReferenceIdeal.main_arg1) i)) _ _ j z) ?_
  refine Iff.trans ?_ (red_le (amaxArr8 (E38 m) c) _ _ j z).symm
  refine Iff.trans ?_ (Cert.KernelIdeal.Gen.H.amaxArr8_le (E38 m) c z).symm
  refine Iff.trans ?_ (mag_le _ (ix2 0 0) z).symm
  rw [h.2.1]
  have e : (E38 m c (Pipeline.arrRef Cert.KernelIdeal.spec1 2) : SW.Idx → EReal) = kW m c := Cert.KernelIdeal.Gen.H.w38_arg1 m c
  rw [e]
  rfl
theorem amax2 : mag2 (m' ((c.tc : Thread Cert.ReferenceIdeal.nD Cert.ReferenceIdeal.τ).loc Cert.ReferenceIdeal.main_arg2)) = red256 (amaxArr9 (E38 m) c) := by
  refine scalar_ext _ _ fun j z => ?_
  refine Iff.trans (red_le (fun i => mag (m' ((c.tc : Thread Cert.ReferenceIdeal.nD Cert.ReferenceIdeal.τ).loc Cert.ReferenceIdeal.main_arg2) i)) _ _ j z) ?_
  refine Iff.trans ?_ (red_le (amaxArr9 (E38 m) c) _ _ j z).symm
  refine Iff.trans ?_ (Cert.KernelIdeal.Gen.H.amaxArr9_le (E38 m) c z).symm
  refine Iff.trans ?_ (mag_le _ (ix2 0 0) z).symm
  rw [h.2.2.1]
  have e : (E38 m c (Pipeline.arrRef Cert.KernelIdeal.spec1 3) : SY.Idx → EReal) = kD m c := Cert.KernelIdeal.Gen.H.w38_v1 m c
  rw [e]
  exact (forall_cast _ _ fun x => mag x ≤ z).symm

omit h

/-- The two histories are one function of the three maxima and the old history. -/
theorem cat_eq (a b d : FVec Ideal ⟨0, ![]⟩ .bf16) (H : FVec Ideal ⟨2, ![3, 16]⟩ .f32) : rhist a b d H = hist a b d H := rfl

include h

theorem hist_eq : rhist (mag0 (m' ((c.tc : Thread Cert.ReferenceIdeal.nD Cert.ReferenceIdeal.τ).loc Cert.ReferenceIdeal.main_arg0))) (mag1 (m' ((c.tc : Thread Cert.ReferenceIdeal.nD Cert.ReferenceIdeal.τ).loc Cert.ReferenceIdeal.main_arg1)))
      (mag2 (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3))
    = hist (red5760 (amaxArr0 (E37 m) c)) (red5760 (amaxArr8 (E38 m) c)) (red256 (amaxArr9 (E38 m) c)) (m ((c.tc : Thread Cert.KernelIdeal.nD Cert.KernelIdeal.τ).loc Cert.KernelIdeal.main_arg3)) := by
  rw [amax0 m m' c h, amax1 m m' c h, amax2 m m' c h, h.2.2.2]
  exact cat_eq _ _ _ _

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Run
public import proofs.«01_k».proof.Proof.KI.Run
public import proofs.«01_k».proof.Proof.V.KEnd
public import proofs.«01_k».proof.Proof.V.REnd
public import proofs.«01_k».proof.Proof.V.Equal
public import Idealize.ShloMosaic.Adequacy
public import Idealize.ShloMosaic.Init

@[expose] public section

noncomputable section

namespace Cert.Proof

open Idealize.ShloMosaic Idealize.SL.Sem Cert.Kernel

/-- The idealized kernel and the idealized reference compute the same ten results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, _, _, _, _, _, _, Cert.KernelIdeal.Gen.H.values m g, ?_⟩
  refine (θ_run _ _ _).mono (fun r hr c => ?_) (Cert.ReferenceIdeal.Gen.values m' g')
  have h : Cert.Equal.Agree m m' c := hagree c
  obtain ⟨r0, r1, r2, r3, r4, r5, r6, r7, r8, r9, ra⟩ := hr c
  rw [Cert.Equal.gX_eq m m' c h, Cert.Equal.gW_eq m m' c h, Cert.Equal.tY_eq m m' c h] at r0
  rw [Cert.Equal.gD_eq m m' c h, Cert.Equal.gW_eq m m' c h, Cert.Equal.tDX_eq m m' c h] at r1
  rw [Cert.Equal.gD_eq m m' c h, Cert.Equal.gX_eq m m' c h, Cert.Equal.tDW_eq m m' c h] at r2
  rw [Cert.Equal.gX_eq m m' c h] at r3
  rw [Cert.Equal.gD_eq m m' c h] at r7
  exact ⟨r0, r1, r2, r3, r4.trans (Cert.Equal.p0 m m' c h), r5.trans (Cert.Equal.gW_eq m m' c h), r6.trans (Cert.Equal.p1 m m' c h), r7,
    r8.trans (Cert.Equal.p2 m m' c h), r9.trans (Cert.Equal.hist_eq m m' c h), ra⟩

theorem claim : Cert.Claim := ⟨Cert.Kernel.Gen.facts, Cert.KernelIdeal.Gen.facts, Cert.ReferenceIdeal.Gen.facts,
  fun m ρ _ => Cert.Kernel.Gen.H.frame m ρ, fun m ρ _ => Cert.KernelIdeal.Gen.H.frame m ρ,
  fun m ρ _ => Cert.ReferenceIdeal.Gen.frame m ρ, trivial, algebraic⟩

end Cert.Proof

end
